-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_overflow [hPre_no_overflow : Cert.Pre_no_overflow.Facts] (m : (ℓ : Loc Cert.KernelIdeal.nD Cert.KernelIdeal.τ Cert.KernelIdeal.sig) → Buf (Elt Ideal) ℓ) : Prop :=
  ∀ c : Dev Cert.KernelIdeal.nD,
    (Cert.Pre_no_overflow.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_overflow [hPre_no_overflow : Cert.Pre_no_overflow.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_overflow.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_no_overflow [hKernelIdeal : Cert.KernelIdeal.Facts] [hPre_no_overflow : Cert.Pre_no_overflow.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_overflow m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_no_overflow [hReferenceIdeal : Cert.ReferenceIdeal.Facts] [hPre_no_overflow : Cert.Pre_no_overflow.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_overflow m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_no_overflow [hKernelIdeal : Cert.KernelIdeal.Facts] [hReferenceIdeal : Cert.ReferenceIdeal.Facts] [hPre_no_overflow : Cert.Pre_no_overflow.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_overflow m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41_0) = v0 c
          ∧ r.2.mem ((c.tc : Thread Cert.ReferenceIdeal.nD Cert.ReferenceIdeal.τ).loc Cert.ReferenceIdeal.main_v41_1) = v1 c
          ∧ r.2.mem ((c.tc : Thread Cert.ReferenceIdeal.nD Cert.ReferenceIdeal.τ).loc Cert.ReferenceIdeal.main_v41_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_no_overflow : Cert.Pre_no_overflow.Facts),
    quiescent_Kernel (hKernel := hKernel)
    ∧ quiescent_KernelIdeal (hKernelIdeal := hKernelIdeal)
    ∧ quiescent_KernelIdeal_pre_no_overflow (hKernelIdeal := hKernelIdeal) (hPre_no_overflow := hPre_no_overflow)
    ∧ quiescent_ReferenceIdeal (hReferenceIdeal := hReferenceIdeal)
    ∧ quiescent_ReferenceIdeal_pre_no_overflow (hReferenceIdeal := hReferenceIdeal) (hPre_no_overflow := hPre_no_overflow)
    ∧ preserves_Kernel_KernelIdeal
    ∧ algebraic_KernelIdeal_ReferenceIdeal_pre_no_overflow (hKernelIdeal := hKernelIdeal) (hReferenceIdeal := hReferenceIdeal) (hPre_no_overflow := hPre_no_overflow)
-- ==== Pre_no_overflow.lean ====
abbrev S1x8192x4096 : Shape := ⟨3, ![1, 8192, 4096]⟩
abbrev S4096x3584 : Shape := ⟨2, ![4096, 3584]⟩
abbrev S3584 : Shape := ⟨1, ![3584]⟩
abbrev S4096 : Shape := ⟨1, ![4096]⟩
abbrev S1x1x4096 : Shape := ⟨3, ![1, 1, 4096]⟩
abbrev S_ : Shape := ⟨0, ![]⟩

class Facts : Prop where
  bitsLt_bf16_f32 : FTy.bits .bf16 < FTy.bits .f32
  bcast_S4096_S1x1x4096_2 : S4096.BroadcastsInDim S1x1x4096 (![2] : Fin 1 → Fin S1x1x4096.rank)
  bcast_S1x1x4096_S1x8192x4096_0_1_2 : S1x1x4096.BroadcastsInDim S1x8192x4096 (![0, 1, 2] : Fin 3 → Fin S1x8192x4096.rank)
  bcast_S_S1x8192x4096 : S_.BroadcastsInDim S1x8192x4096 (![] : Fin 0 → Fin S1x8192x4096.rank)

variable [Facts]

def fn {F : FTy → Type} [FloatOps F] (main_arg0 : FVec F S1x8192x4096 .bf16) (main_arg1 : FVec F S4096x3584 .fp8e4m3) (main_arg2 : FVec F S3584 .f32) (main_arg3 : FVec F S4096 .f32) : IVec S1x8192x4096 1 :=
  let main_v0 : FVec F S1x8192x4096 .f32 := (extf .f32 · bitsLt_bf16_f32) main_arg0
  let main_v1 : FVec F S1x1x4096 .f32 := broadcastInDim S1x1x4096 ![2] bcast_S4096_S1x1x4096_2 main_arg3
  let main_v2 : FVec F S1x8192x4096 .f32 := broadcastInDim S1x8192x4096 ![0, 1, 2] bcast_S1x1x4096_S1x8192x4096_0_1_2 main_v1
  let main_v3 : FVec F S1x8192x4096 .f32 := mulf main_v0 main_v2
  let main_v4 : FVec F S1x8192x4096 .f32 := Host.absf main_v3
  let main_cst : FVec F S_ .f32 := constant S_ .f32 0x7F7FFFFF#32
  let main_v5 : FVec F S1x8192x4096 .f32 := broadcastInDim S1x8192x4096 ![] bcast_S_S1x8192x4096 main_cst
  let main_v6 : IVec S1x8192x4096 1 := cmpf .ole main_v4 main_v5
  main_v6
-- ==== Kernel.lean ====
abbrev S1x8192x4096 : Shape := ⟨3, ![1, 8192, 4096]⟩
abbrev S4096x3584 : Shape := ⟨2, ![4096, 3584]⟩
abbrev S3584 : Shape := ⟨1, ![3584]⟩
abbrev S4096 : Shape := ⟨1, ![4096]⟩
abbrev S256x256 : Shape := ⟨2, ![256, 256]⟩
abbrev S8192x4096 : Shape := ⟨2, ![8192, 4096]⟩
abbrev S1x4096 : Shape := ⟨2, ![1, 4096]⟩
abbrev S1x3584 : Shape := ⟨2, ![1, 3584]⟩
abbrev S8192x3584 : Shape := ⟨2, ![8192, 3584]⟩
abbrev S8192x1 : Shape := ⟨2, ![8192, 1]⟩
abbrev S256x4096 : Shape := ⟨2, ![256, 4096]⟩
abbrev S512x3584 : Shape := ⟨2, ![512, 3584]⟩
abbrev S512x4096 : Shape := ⟨2, ![512, 4096]⟩
abbrev S512x1 : Shape := ⟨2, ![512, 1]⟩
abbrev S256x128 : Shape := ⟨2, ![256, 128]⟩
abbrev S1x256 : Shape := ⟨2, ![1, 256]⟩
abbrev S256 : Shape := ⟨1, ![256]⟩
abbrev S256x1 : Shape := ⟨2, ![256, 1]⟩
abbrev S4096x512 : Shape := ⟨2, ![4096, 512]⟩
abbrev S256x512 : Shape := ⟨2, ![256, 512]⟩
abbrev S1x512 : Shape := ⟨2, ![1, 512]⟩

abbrev nBuf : Space → Nat
  | .hbm => 11
  | .vmem => 20
  | .smem => 0
  | _ => 0

abbrev bufTy : (tb : Table) → Fin (tcTables nBuf tb) → BufTy
  | .hbm, ⟨0, _⟩ => ⟨S1x8192x4096, .bf16⟩
  | .hbm, ⟨1, _⟩ => ⟨S4096x3584, .fp8e4m3⟩
  | .hbm, ⟨2, _⟩ => ⟨S3584, .f32⟩
  | .hbm, ⟨3, _⟩ => ⟨S4096, .f32⟩
  | .hbm, ⟨4, _⟩ => ⟨S256x256, .bf16⟩
  | .hbm, ⟨5, _⟩ => ⟨S8192x4096, .bf16⟩
  | .hbm, ⟨6, _⟩ => ⟨S1x4096, .f32⟩
  | .hbm, ⟨7, _⟩ => ⟨S1x3584, .f32⟩
  | .hbm, ⟨8, _⟩ => ⟨S8192x3584, .bf16⟩
  | .hbm, ⟨9, _⟩ => ⟨S8192x4096, .fp8e4m3⟩
  | .hbm, ⟨10, _⟩ => ⟨S8192x1, .f32⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S1x4096, .f32⟩
  | .local _ .vmem, ⟨6, _⟩ => ⟨S256x256, .bf16⟩
  | .local _ .vmem, ⟨7, _⟩ => ⟨S4096x3584, .fp8e4m3⟩
  | .local _ .vmem, ⟨8, _⟩ => ⟨S1x3584, .f32⟩
  | .local _ .vmem, ⟨9, _⟩ => ⟨S512x3584, .bf16⟩
  | .local _ .vmem, ⟨10, _⟩ => ⟨S512x3584, .bf16⟩
  | .local _ .vmem, ⟨11, _⟩ => ⟨S512x4096, .fp8e4m3⟩
  | .local _ .vmem, ⟨12, _⟩ => ⟨S512x4096, .fp8e4m3⟩
  | .local _ .vmem, ⟨13, _⟩ => ⟨S512x1, .f32⟩
  | .local _ .vmem, ⟨14, _⟩ => ⟨S512x1, .f32⟩
  | .local _ .vmem, ⟨15, _⟩ => ⟨S256x4096, .f32⟩
  | .local _ .vmem, ⟨16, _⟩ => ⟨S256x4096, .fp8e4m3⟩
  | .local _ .vmem, ⟨17, _⟩ => ⟨S256x4096, .fp8e4m3⟩
  | .local _ .vmem, ⟨18, _⟩ => ⟨S256x128, .f32⟩
  | .local _ .vmem, ⟨19, _⟩ => ⟨S256x128, .f32⟩
  | _, _ => ⟨S1x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c31_i32 : BitVec 32 := 31#32
  let v2 : BitVec 32 := Scalar.minsi v1 c31_i32
  let c0_i32 : BitVec 32 := 0#32
  let c0_i32_1 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x3584 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x3584 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1x8192x4096 : Shape := ⟨3, ![1, 8192, 4096]⟩
abbrev S4096x3584 : Shape := ⟨2, ![4096, 3584]⟩
abbrev S3584 : Shape := ⟨1, ![3584]⟩
abbrev S4096 : Shape := ⟨1, ![4096]⟩
abbrev S2x2 : Shape := ⟨2, ![2, 2]⟩
abbrev S_ : Shape := ⟨0, ![]⟩
abbrev S1x1 : Shape := ⟨2, ![1, 1]⟩
abbrev S1x1x1x1 : Shape := ⟨4, ![1, 1, 1, 1]⟩
abbrev S1x2x1x2 : Shape := ⟨4, ![1, 2, 1, 2]⟩
abbrev S2x1x2x1 : Shape := ⟨4, ![2, 1, 2, 1]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S1x1x4096 : Shape := ⟨3, ![1, 1, 4096]⟩
abbrev S1x8192x32x128 : Shape := ⟨4, ![1, 8192, 32, 128]⟩
abbrev S8192x4096 : Shape := ⟨2, ![8192, 4096]⟩
abbrev S8192 : Shape := ⟨1, ![8192]⟩
abbrev S8192x1 : Shape := ⟨2, ![8192, 1]⟩
abbrev S1x3584 : Shape := ⟨2, ![1, 3584]⟩
abbrev S8192x3584 : Shape := ⟨2, ![8192, 3584]⟩

abbrev nBuf : Space → Nat
  | .hbm => 99
  | .vmem => 8
  | .smem => 0
  | _ => 0

abbrev bufTy : (tb : Table) → Fin (tcTables nBuf tb) → BufTy
  | .hbm, ⟨0, _⟩ => ⟨S1x8192x4096, .bf16⟩
  | .hbm, ⟨1, _⟩ => ⟨S4096x3584, .fp8e4m3⟩
  | .hbm, ⟨2, _⟩ => ⟨S3584, .f32⟩
  | .hbm, ⟨3, _⟩ => ⟨S4096, .f32⟩
  | .hbm, ⟨4, _⟩ => ⟨S2x2, .f32⟩
  | .hbm, ⟨5, _⟩ => ⟨S_, .f32⟩
  | .hbm, ⟨6, _⟩ => ⟨S1x1, .f32⟩
  | .hbm, ⟨7, _⟩ => ⟨S1x1x1x1, .f32⟩
  | .hbm, ⟨8, _⟩ => ⟨S1x2x1x2, .f32⟩
  | .hbm, ⟨9, _⟩ => ⟨S1x2x1x2, .f32⟩
  | .hbm, ⟨10, _⟩ => ⟨S1x2x1x2, .f32⟩
  | .hbm, ⟨11, _⟩ => ⟨S2x2, .f32⟩
  | .hbm, ⟨12, _⟩ => ⟨S2x1x2x1, .f32⟩
  | .hbm, ⟨13, _⟩ => ⟨S1x2x1x2, .f32⟩
  | .hbm, ⟨14, _⟩ => ⟨S2x2x2x2, .f32⟩
  | .hbm, ⟨15, _⟩ => ⟨S2x2x2x2, .f32⟩
  | .hbm, ⟨16, _⟩ => ⟨S2x2x2x2, .f32⟩
  | .hbm, ⟨17, _⟩ => ⟨S4x4, .f32⟩
  | .hbm, ⟨18, _⟩ => ⟨S4x1x4x1, .f32⟩
  | .hbm, ⟨19, _⟩ => ⟨S1x2x1x2, .f32⟩
  | .hbm, ⟨20, _⟩ => ⟨S4x2x4x2, .f32⟩
  | .hbm, ⟨21, _⟩ => ⟨S4x2x4x2, .f32⟩
  | .hbm, ⟨22, _⟩ => ⟨S4x2x4x2, .f32⟩
  | .hbm, ⟨23, _⟩ => ⟨S8x8, .f32⟩
  | .hbm, ⟨24, _⟩ => ⟨S8x1x8x1, .f32⟩
  | .hbm, ⟨25, _⟩ => ⟨S1x2x1x2, .f32⟩
  | .hbm, ⟨26, _⟩ => ⟨S8x2x8x2, .f32⟩
  | .hbm, ⟨27, _⟩ => ⟨S8x2x8x2, .f32⟩
  | .hbm, ⟨28, _⟩ => ⟨S8x2x8x2, .f32⟩
  | .hbm, ⟨29, _⟩ => ⟨S16x16, .f32⟩
  | .hbm, ⟨30, _⟩ => ⟨S16x1x16x1, .f32⟩
  | .hbm, ⟨31, _⟩ => ⟨S1x2x1x2, .f32⟩
  | .hbm, ⟨32, _⟩ => ⟨S16x2x16x2, .f32⟩
  | .hbm, ⟨33, _⟩ => ⟨S16x2x16x2, .f32⟩
  | .hbm, ⟨34, _⟩ => ⟨S16x2x16x2, .f32⟩
  | .hbm, ⟨35, _⟩ => ⟨S32x32, .f32⟩
  | .hbm, ⟨36, _⟩ => ⟨S32x1x32x1, .f32⟩
  | .hbm, ⟨37, _⟩ => ⟨S1x2x1x2, .f32⟩
  | .hbm, ⟨38, _⟩ => ⟨S32x2x32x2, .f32⟩
  | .hbm, ⟨39, _⟩ => ⟨S32x2x32x2, .f32⟩
  | .hbm, ⟨40, _⟩ => ⟨S32x2x32x2, .f32⟩
  | .hbm, ⟨41, _⟩ => ⟨S64x64, .f32⟩
  | .hbm, ⟨42, _⟩ => ⟨S64x1x64x1, .f32⟩
  | .hbm, ⟨43, _⟩ => ⟨S1x2x1x2, .f32⟩
  | .hbm, ⟨44, _⟩ => ⟨S64x2x64x2, .f32⟩
  | .hbm, ⟨45, _⟩ => ⟨S64x2x64x2, .f32⟩
  | .hbm, ⟨46, _⟩ => ⟨S64x2x64x2, .f32⟩
  | .hbm, ⟨47, _⟩ => ⟨S128x128, .f32⟩
  | .hbm, ⟨48, _⟩ => ⟨S_, .f32⟩
  | .hbm, ⟨49, _⟩ => ⟨S128x128, .f32⟩
  | .hbm, ⟨50, _⟩ => ⟨S128x128, .f32⟩
  | .hbm, ⟨51, _⟩ => ⟨S1x8192x4096, .f32⟩
  | .hbm, ⟨52, _⟩ => ⟨S1x1x4096, .f32⟩
  | .hbm, ⟨53, _⟩ => ⟨S1x8192x4096, .f32⟩
  | .hbm, ⟨54, _⟩ => ⟨S1x8192x4096, .f32⟩
  | .hbm, ⟨55, _⟩ => ⟨S1x8192x32x128, .f32⟩
  | .hbm, ⟨56, _⟩ => ⟨S1x8192x32x128, .f32⟩
  | .hbm, ⟨57, _⟩ => ⟨S8192x4096, .f32⟩
  | .hbm, ⟨58, _⟩ => ⟨S8192x4096, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .i1⟩
  | .hbm, ⟨77, _⟩ => ⟨S_, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .i1⟩
  | .hbm, ⟨84, _⟩ => ⟨S_, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S1x3584, .f32⟩
  | .hbm, ⟨96, _⟩ => ⟨S8192x3584, .bf16⟩
  | .hbm, ⟨97, _⟩ => ⟨S8192x4096, .fp8e4m3⟩
  | .hbm, ⟨98, _⟩ => ⟨S8192x1, .f32⟩
  | .local _ .vmem, ⟨0, _⟩ => ⟨S8192x4096, .f32⟩
  | .local _ .vmem, ⟨1, _⟩ => ⟨S8192x1, .f32⟩
  | .local _ .vmem, ⟨2, _⟩ => ⟨S8192x1, .f32⟩
  | .local _ .vmem, ⟨3, _⟩ => ⟨S4096x3584, .fp8e4m3⟩
  | .local _ .vmem, ⟨4, _⟩ => ⟨S1x3584, .f32⟩
  | .local _ .vmem, ⟨5, _⟩ => ⟨S8192x3584, .bf16⟩
  | .local _ .vmem, ⟨6, _⟩ => ⟨S8192x4096, .fp8e4m3⟩
  | .local _ .vmem, ⟨7, _⟩ => ⟨S8192x1, .f32⟩
  | _, _ => ⟨S1x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_v1 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v2 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v3 : Ref sig .tc := ⟨.hbm, 23, rfl⟩
abbrev main_call3_v0 : Ref sig .tc := ⟨.hbm, 24, rfl⟩
abbrev main_call3_v1 : Ref sig .tc := ⟨.hbm, 25, rfl⟩
abbrev main_call3_v2 : Ref sig .tc := ⟨.hbm, 26, rfl⟩
abbrev main_call3_v3 : Ref sig .tc := ⟨.hbm, 27, rfl⟩
abbrev main_call3_v4 : Ref sig .tc := ⟨.hbm, 28, rfl⟩
abbrev main_v4 : Ref sig .tc := ⟨.hbm, 29, rfl⟩
abbrev main_call4_v0 : Ref sig .tc := ⟨.hbm, 30, rfl⟩
abbrev main_call4_v1 : Ref sig .tc := ⟨.hbm, 31, rfl⟩
abbrev main_call4_v2 : Ref sig .tc := ⟨.hbm, 32, rfl⟩
abbrev main_call4_v3 : Ref sig .tc := ⟨.hbm, 33, rfl⟩
abbrev main_call4_v4 : Ref sig .tc := ⟨.hbm, 34, rfl⟩
abbrev main_v5 : Ref sig .tc := ⟨.hbm, 35, rfl⟩
abbrev main_call5_v0 : Ref sig .tc := ⟨.hbm, 36, rfl⟩
abbrev main_call5_v1 : Ref sig .tc := ⟨.hbm, 37, rfl⟩
abbrev main_call5_v2 : Ref sig .tc := ⟨.hbm, 38, rfl⟩
abbrev main_call5_v3 : Ref sig .tc := ⟨.hbm, 39, rfl⟩
abbrev main_call5_v4 : Ref sig .tc := ⟨.hbm, 40, rfl⟩
abbrev main_v6 : Ref sig .tc := ⟨.hbm, 41, rfl⟩
abbrev main_call6_v0 : Ref sig .tc := ⟨.hbm, 42, rfl⟩
abbrev main_call6_v1 : Ref sig .tc := ⟨.hbm, 43, rfl⟩
abbrev main_call6_v2 : Ref sig .tc := ⟨.hbm, 44, rfl⟩
abbrev main_call6_v3 : Ref sig .tc := ⟨.hbm, 45, rfl⟩
abbrev main_call6_v4 : Ref sig .tc := ⟨.hbm, 46, rfl⟩
abbrev main_v7 : Ref sig .tc := ⟨.hbm, 47, rfl⟩
abbrev main_cst_1 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_cst_2 : Ref sig .tc := ⟨.hbm, 59, rfl⟩
abbrev main_v18 : Ref sig .tc := ⟨.hbm, 60, rfl⟩
abbrev main_v19 : Ref sig .tc := ⟨.hbm, 61, rfl⟩
abbrev main_cst_3 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_cst_4 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_cst_5 : Ref sig .tc := ⟨.hbm, 71, rfl⟩
abbrev main_v27 : Ref sig .tc := ⟨.hbm, 72, rfl⟩
abbrev main_v28 : Ref sig .tc := ⟨.hbm, 73, rfl⟩
abbrev main_cst_6 : Ref sig .tc := ⟨.hbm, 74, rfl⟩
abbrev main_v29 : Ref sig .tc := ⟨.hbm, 75, rfl⟩
abbrev main_v30 : Ref sig .tc := ⟨.hbm, 76, rfl⟩
abbrev main_cst_7 : Ref sig .tc := ⟨.hbm, 77, rfl⟩
abbrev main_call7_v0 : Ref sig .tc := ⟨.hbm, 78, rfl⟩
abbrev main_call7_v1 : Ref sig .tc := ⟨.hbm, 79, rfl⟩
abbrev main_v31 : Ref sig .tc := ⟨.hbm, 80, rfl⟩
abbrev main_cst_8 : Ref sig .tc := ⟨.hbm, 81, rfl⟩
abbrev main_v32 : Ref sig .tc := ⟨.hbm, 82, rfl⟩
abbrev main_v33 : Ref sig .tc := ⟨.hbm, 83, rfl⟩
abbrev main_cst_9 : Ref sig .tc := ⟨.hbm, 84, rfl⟩
abbrev main_call8_v0 : Ref sig .tc := ⟨.hbm, 85, rfl⟩
abbrev main_call8_v1 : Ref sig .tc := ⟨.hbm, 86, rfl⟩
abbrev main_v34 : Ref sig .tc := ⟨.hbm, 87, rfl⟩
abbrev main_cst_10 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_cst_11 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41_0 : Ref sig .tc := ⟨.hbm, 96, rfl⟩
abbrev main_v41_1 : Ref sig .tc := ⟨.hbm, 97, rfl⟩
abbrev main_v41_2 : Ref sig .tc := ⟨.hbm, 98, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8192x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Exponent.lean ====
/-
  THE POWER OF TWO ABOVE A NUMBER, TWO WAYS. The kernel finds the exponent of a nonnegative number `t` by counting how many
  of the words `1 << 23, …, 255 << 23` (the powers of two from 2⁻¹²⁶ to 2¹²⁷, then infinity) `t` reaches; the reference
  takes the integer part of `log t / log 2`, which is called `ilog t` here. This module counts the words reached in terms of
  `ilog t`, and gives the value of the word `n << 23` as a power of two.
-/
module

public import Idealize.ShloMosaic.PureOps.Ideal.Laws
public import Mathlib.Order.Interval.Finset.Fin

@[expose] public section

noncomputable section

namespace Cert.Quarot

open Idealize.ShloMosaic

/-! ## The words of the powers of two -/

/-- The word `n << 23` has sign 0, exponent field `n` and fraction 0. -/
theorem word_fields : ∀ n : Fin 256, ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by
  decide +kernel

/-- Two to the 23 times two to `k - 23` is two to `k`. -/
theorem two_zpow_shift (k : ℤ) : (2 : ℝ) ^ (23 : ℤ) * (2 : ℝ) ^ (k - 23) = (2 : ℝ) ^ k := by
  rw [← zpow_add₀ (by norm_num), show (23 : ℤ) + (k - 23) = k by ring]

/-- The word `n << 23` is the power of two `2 ^ (n - 127)` for `n` from 1 to 254. -/
theorem ofBits_shift (n : ℕ) (h1 : 1 ≤ n) (h2 : n ≤ 254) :
    Ideal.ofBits .f32 (BitVec.ofNat 32 n <<< 23) = (((2 : ℝ) ^ ((n : ℤ) - 127) : ℝ) : EReal) := by
  obtain ⟨a, b, c⟩ := word_fields ⟨n, by omega⟩
  simp only at a b c
  show Ideal.ieee 8 23 _ = _
  unfold Ideal.ieee
  simp only [show 8 + 23 = 31 from rfl, a, b, c]
  rw [if_neg (by norm_num; omega), if_neg (by omega)]
  rw [EReal.coe_eq_coe_iff]
  push_cast
  rw [show (1 : ℝ) * 8388608 = (2 : ℝ) ^ (23 : ℤ) by norm_num]
  exact two_zpow_shift _

/-- The word `255 << 23` is infinity. -/
theorem ofBits_shift_255 : Ideal.ofBits .f32 (BitVec.ofNat 32 255 <<< 23) = ⊤ := by
  obtain ⟨a, b, c⟩ := word_fields ⟨255, by omega⟩
  change Ideal.ieee 8 23 (BitVec.ofNat 32 255 <<< 23) = _
  unfold Ideal.ieee
  simp only [show 8 + 23 = 31 from rfl, a, b, c]
  norm_num

/-! ## The integer logarithm -/

/-- The integer part of the logarithm to base 2. -/
def ilog (t : ℝ) : ℤ := ⌊Real.log t / Real.log 2⌋

/-- A power of two is at most `t` exactly when its exponent is at most the integer logarithm. -/
theorem zpow_le_iff (t : ℝ) (hp : 0 < t) (k : ℤ) : (2 : ℝ) ^ k ≤ t ↔ k ≤ ilog t := by
  have h2 : (0 : ℝ) < Real.log 2 := Real.log_pos (by norm_num)
  unfold ilog
  rw [Int.le_floor, le_div_iff₀ h2, ← Real.log_zpow, Real.log_le_log_iff (by positivity) hp]

/-- The exponent: 0 below 2⁻¹²⁶, and one more than the integer logarithm elsewhere. -/
def expo (t : ℝ) : ℤ := if t < (2 : ℝ) ^ (-126 : ℤ) then 0 else ilog t + 1

/-- The logarithm of a positive number below two to the 126 is at most 125. -/
theorem log_le (t : ℝ) (hp : 0 < t) (h : t < (2 : ℝ) ^ (126 : ℤ)) : ilog t ≤ 125 := by
  by_contra c
  exact absurd ((zpow_le_iff t hp 126).2 (by omega)) (not_le.2 h)

/-- The logarithm of a normal number is at least -126. -/
theorem le_log (t : ℝ) (h : (2 : ℝ) ^ (-126 : ℤ) ≤ t) : -126 ≤ ilog t :=
  (zpow_le_iff t (lt_of_lt_of_le (by positivity) h) (-126)).1 h

/-- The exponent of a number below two to the 126 is at most 126. -/
theorem expo_le (t : ℝ) (h : t < (2 : ℝ) ^ (126 : ℤ)) : expo t ≤ 126 := by
  unfold expo
  split_ifs with c
  · norm_num
  · have hp : (0 : ℝ) < t := lt_of_lt_of_le (by positivity) (not_lt.1 c)
    have := log_le t hp h
    omega

/-- The exponent is at least -125. -/
theorem le_expo (t : ℝ) : -125 ≤ expo t := by
  unfold expo
  split_ifs with c
  · norm_num
  · have := le_log t (not_lt.1 c)
    omega

/-- How many of the powers of two a number below 2¹²⁶ reaches. -/
theorem card_reached (t : ℝ) (h : t < (2 : ℝ) ^ (126 : ℤ)) :
    (Finset.univ.filter fun k : Fin 256 => Ideal.ofBits .f32 (BitVec.ofNat 32 k.val <<< 23) ≤ (t : EReal) ∧ 0 < k.val).card
      = if t < (2 : ℝ) ^ (-126 : ℤ) then 0 else (ilog t + 127).toNat := by
  have key : ∀ k : Fin 256, (Ideal.ofBits .f32 (BitVec.ofNat 32 k.val <<< 23) ≤ (t : EReal) ∧ 0 < k.val)
      ↔ (0 < k.val ∧ k.val < 255 ∧ (2 : ℝ) ^ ((k.val : ℤ) - 127) ≤ t) := by
    intro k
    have hk := k.isLt
    constructor
    · rintro ⟨a, b⟩
      by_cases c : k.val = 255
      · rw [c, ofBits_shift_255] at a
        exact absurd a (by simp)
      · rw [ofBits_shift _ b (by omega)] at a
        exact ⟨b, by omega, by exact_mod_cast a⟩
    · rintro ⟨b, c, a⟩
      rw [ofBits_shift _ b (by omega)]
      exact ⟨by exact_mod_cast a, b⟩
  rw [Finset.filter_congr (fun k _ => key k)]
  split_ifs with c
  · rw [Finset.card_eq_zero, Finset.filter_eq_empty_iff]
    rintro k - ⟨a, b, d⟩
    have : (2 : ℝ) ^ (-126 : ℤ) ≤ (2 : ℝ) ^ ((k.val : ℤ) - 127) := zpow_le_zpow_right₀ (by norm_num) (by omega)
    linarith
  · have hp : (0 : ℝ) < t := lt_of_lt_of_le (by positivity) (not_lt.1 c)
    have l1 := log_le t hp h
    have l2 := le_log t (not_lt.1 c)
    obtain ⟨n, hn⟩ : ∃ n : ℕ, ilog t + 127 = n := ⟨(ilog t + 127).toNat, by omega⟩
    have e : (Finset.univ.filter fun k : Fin 256 => 0 < k.val ∧ k.val < 255 ∧ (2 : ℝ) ^ ((k.val : ℤ) - 127) ≤ t)
        = Finset.Icc (⟨1, by omega⟩ : Fin 256) ⟨n, by omega⟩ := by
      ext k
      rw [Finset.mem_filter, Finset.mem_Icc, Fin.le_def, Fin.le_def]
      rw [zpow_le_iff t hp]
      simp only [Finset.mem_univ, true_and]
      omega
    rw [e, Fin.card_Icc, hn]
    simp

end Cert.Quarot
-- ==== Proof.Row.lean ====
/-
  ONE ROW, IN REAL NUMBERS. A row of activations times signs is `z : Fin 4096 → EReal`. This module states what the layer makes
  of it: the rotation `rot z` by the 128-point sign matrix in each group of 128, the largest magnitude `amax`, the number
  `level` whose exponent is the scale's, the scale and the codes. It also holds the facts about them that both programs use:
  the constants, the bound that keeps the exponent below 126, and a largest magnitude found in any order of maxima.
-/
module

public import proofs.«01_k».proof.Proof.Exponent

@[expose] public section

noncomputable section

namespace Cert.Quarot

open Idealize.ShloMosaic

/-! ## The sign matrix -/

/-- Whether the entry (i, j) of the sign matrix of 2ⁿ points is −1: the parity of the positions in which both indices have a 1. -/
def par : ℕ → ℕ → ℕ → Bool
  | 0, _, _ => false
  | n + 1, i, j => Bool.xor (par n (i / 2) (j / 2)) (i % 2 == 1 && j % 2 == 1)

/-- A sign as a real number. -/
def sgn (b : Bool) : ℝ := if b then -1 else 1

/-- The sign matrix of 128 points. -/
def had (i j : ℕ) : ℝ := sgn (par 7 i j)

/-- Every entry of the table is 1 or -1. -/
theorem abs_had (i j : ℕ) : |had i j| = 1 := by
  unfold had sgn
  split <;> norm_num

/-- The sign of an exclusive or is the product of the signs. -/
theorem sgn_xor (a b : Bool) : sgn (Bool.xor a b) = sgn a * sgn b := by
  cases a <;> cases b <;> norm_num [sgn]

/-! ## The constants -/

/-- The rotation's norm, 1/√128 rounded to f32. -/
def hn : ℝ := 11863283 * (2 : ℝ) ^ (-27 : ℤ)
/-- 1/448 rounded to f32. -/
def cn : ℝ := 9586981 * (2 : ℝ) ^ (-32 : ℤ)

/-- The normalising factor is positive. -/
theorem hn_pos : 0 < hn := by unfold hn; positivity
/-- The factor `1 / 448` is positive. -/
theorem cn_pos : 0 < cn := by unfold cn; positivity

/-- The value of a positive normal f32 pattern. -/
theorem ofBits_normal (b : BitVec 32) (ex fr : ℕ) (h0 : (b.extractLsb' 31 1 == 1#1) = false) (h1 : (b.extractLsb' 23 8).toNat = ex)
    (h2 : (b.extractLsb' 0 23).toNat = fr) (hx : ex ≠ 255) (hx0 : ex ≠ 0) :
    Ideal.ofBits .f32 b = ((((2 ^ 23 + fr : ℕ) : ℝ) * (2 : ℝ) ^ ((ex : ℤ) - 127 - 23) : ℝ) : EReal) := by
  change Ideal.ieee 8 23 b = _
  unfold Ideal.ieee
  simp only [show 8 + 23 = 31 from rfl, h0, h1, h2]
  rw [if_neg (by simpa using hx), if_neg hx0]
  norm_num

/-- The f32 word `0x3DB504F3` is the normalising factor. -/
theorem ofBits_hn : Ideal.ofBits .f32 0x3DB504F3#32 = (hn : EReal) := by
  rw [ofBits_normal _ 123 3474675 (by decide) (by decide) (by decide) (by decide) (by decide)]
  unfold hn
  norm_num

/-- The f32 word `0x3B124925` is the f32 number next to `1 / 448`. -/
theorem ofBits_cn : Ideal.ofBits .f32 0x3B124925#32 = (cn : EReal) := by
  rw [ofBits_normal _ 118 1198373 (by decide) (by decide) (by decide) (by decide) (by decide)]
  unfold cn
  norm_num

/-- The largest finite f32 number is below 2¹²⁸. -/
theorem ofBits_max_lt : Ideal.ofBits .f32 0x7F7FFFFF#32 < (((2 : ℝ) ^ (128 : ℕ) : ℝ) : EReal) := by
  rw [ofBits_normal _ 254 8388607 (by decide) (by decide) (by decide) (by decide) (by decide)]
  exact EReal.coe_lt_coe_iff.2 (by norm_num)

/-- A sum of reals, in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The row -/

/-- The rotated row before the norm: entry `j` sums the 128 entries of its group under the signs of column `j`. -/
def rot (z : Fin 4096 → EReal) (j : Fin 4096) : ℝ :=
  ∑ i : Fin 128, (z ⟨128 * (j.val / 128) + i.val, by omega⟩).toReal * had i.val (j.val % 128)

/-- The largest magnitude of a row of real numbers. -/
def amax (R : Fin 4096 → ℝ) : ℝ := Finset.univ.sup' ⟨0, Finset.mem_univ _⟩ fun j => |R j|

/-- No magnitude exceeds the maximum. -/
theorem le_amax (R : Fin 4096 → ℝ) (j : Fin 4096) : |R j| ≤ amax R :=
  Finset.le_sup' (fun j => |R j|) (Finset.mem_univ j)

/-- The maximum is reached. -/
theorem exists_amax (R : Fin 4096 → ℝ) : ∃ j, |R j| = amax R := by
  obtain ⟨j, -, h⟩ := Finset.exists_mem_eq_sup' (⟨0, Finset.mem_univ _⟩ : (Finset.univ : Finset (Fin 4096)).Nonempty) fun j => |R j|
  exact ⟨j, h.symm⟩

/-- The maximum is not negative. -/
theorem amax_nonneg (R : Fin 4096 → ℝ) : 0 ≤ amax R := (abs_nonneg _).trans (le_amax R 0)

/-- The number the scale's exponent is taken of: the largest magnitude after the norm, over 448. -/
def level (z : Fin 4096 → EReal) : ℝ := amax (rot z) * hn * cn

/-- The row's exponent. -/
def rowExp (z : Fin 4096 → EReal) : ℤ := expo (level z)

/-- The row's scale, a power of two. -/
def rowScale (z : Fin 4096 → EReal) : EReal := (((2 : ℝ) ^ rowExp z : ℝ) : EReal)

/-- The row's codes: the rotated entries over the scale, clipped at ±448. -/
def rowCode (z : Fin 4096 → EReal) (j : Fin 4096) : EReal :=
  min (Ideal.ofBits .f32 0x43E00000#32) (max (Ideal.ofBits .f32 0xC3E00000#32)
    ((rot z j * (hn * (2 : ℝ) ^ (-rowExp z)) : ℝ) : EReal))

/-- The row of the product: the codes times the fp8 weights, scaled by the row's scale and the column's. -/
def rowOut {N : ℕ} (z : Fin 4096 → EReal) (w : Fin 4096 → Fin N → EReal) (ws : Fin N → EReal) (n : Fin N) : EReal :=
  (∑ k : Fin 4096, rowCode z k * w k n) * rowScale z * ws n

/-- The bound the claim assumes, on a row. -/
def Bounded (z : Fin 4096 → EReal) : Prop := ∀ j, max (z j) (-z j) ≤ Ideal.ofBits .f32 0x7F7FFFFF#32

/-- The entries of a bounded row are real numbers of magnitude at most two to the 128. -/
theorem Bounded.toReal {z : Fin 4096 → EReal} (hz : Bounded z) (j : Fin 4096) : z j = ((z j).toReal : EReal) ∧ |(z j).toReal| ≤ (2 : ℝ) ^ (128 : ℕ) := by
  have h := lt_of_le_of_lt (hz j) ofBits_max_lt
  obtain ⟨h1, h2⟩ := max_lt_iff.1 h
  generalize z j = v at h1 h2
  induction v using EReal.rec with
  | bot => simp at h2
  | top => simp at h1
  | coe v =>
    rw [EReal.toReal_coe]
    rw [← EReal.coe_neg] at h2
    exact ⟨rfl, abs_le.2 ⟨by have := EReal.coe_lt_coe_iff.1 h2; linarith, (EReal.coe_lt_coe_iff.1 h1).le⟩⟩

/-- A bound on the entries, times 128, bounds the rotated entries. -/
theorem rot_le_of (z : Fin 4096 → EReal) (B : ℝ) (h : ∀ j, |(z j).toReal| ≤ B) (j : Fin 4096) : |rot z j| ≤ 128 * B := by
  have h1 : |rot z j| ≤ ∑ _i : Fin 128, B := by
    refine (Finset.abs_sum_le_sum_abs _ _).trans (Finset.sum_le_sum fun i _ => ?_)
    rw [abs_mul, abs_had, mul_one]; exact h _
  rw [Finset.sum_const, Finset.card_univ, Fintype.card_fin, nsmul_eq_mul] at h1
  exact h1

/-- The rotated entries of a bounded row are bounded. -/
theorem Bounded.rot_le {z : Fin 4096 → EReal} (hz : Bounded z) (j : Fin 4096) : |rot z j| ≤ 128 * (2 : ℝ) ^ (128 : ℕ) :=
  rot_le_of z _ (fun j => (hz.toReal j).2) j

/-- The level of a row is not negative. -/
theorem level_nonneg (z : Fin 4096 → EReal) : 0 ≤ level z :=
  mul_nonneg (mul_nonneg (amax_nonneg _) hn_pos.le) cn_pos.le

/-- A bound on the maximum bounds the level. -/
theorem level_le_of (z : Fin 4096 → EReal) (B : ℝ) (h : amax (rot z) ≤ B) : level z ≤ B * hn * cn :=
  mul_le_mul_of_nonneg_right (mul_le_mul_of_nonneg_right h hn_pos.le) cn_pos.le

/-- Under the bound the number whose exponent is taken is below 2¹²⁶. -/
theorem Bounded.level_lt {z : Fin 4096 → EReal} (hz : Bounded z) : level z < (2 : ℝ) ^ (126 : ℤ) := by
  obtain ⟨j, hj⟩ := exists_amax (rot z)
  refine lt_of_le_of_lt (level_le_of z _ (hj ▸ hz.rot_le j)) ?_
  unfold hn cn
  norm_num

/-- A row whose largest magnitude is 0 has exponent 0. -/
theorem rowExp_of_amax (z : Fin 4096 → EReal) (h : amax (rot z) = 0) : rowExp z = 0 := by
  unfold rowExp level expo
  rw [h, if_pos (by norm_num)]

/-! ## The rotation in extended reals -/

/-- On a bounded row the rotation over the reals is the signed sum over the extended reals. -/
theorem Bounded.rot_eq {z : Fin 4096 → EReal} (hz : Bounded z) (j : Fin 4096) :
    ((rot z j : ℝ) : EReal) = ∑ i : Fin 128, z ⟨128 * (j.val / 128) + i.val, by omega⟩ * (had i.val (j.val % 128) : EReal) := by
  unfold rot
  rw [coe_sum]
  refine Finset.sum_congr rfl fun i _ => ?_
  rw [EReal.coe_mul, ← (hz.toReal _).1]

/-- With the norm inside each term, as the reference has it. -/
theorem Bounded.rot_norm_eq {z : Fin 4096 → EReal} (hz : Bounded z) (j : Fin 4096) :
    ((rot z j * hn : ℝ) : EReal)
      = ∑ i : Fin 128, z ⟨128 * (j.val / 128) + i.val, by omega⟩ * ((had i.val (j.val % 128) * hn : ℝ) : EReal) := by
  unfold rot
  rw [Finset.sum_mul, coe_sum]
  refine Finset.sum_congr rfl fun i _ => ?_
  rw [mul_assoc, EReal.coe_mul, ← (hz.toReal _).1]

/-- The two-block matrix of 256 points: the sign matrix on the diagonal, 0 off it. -/
def had2 (k l : ℕ) : EReal := if k / 128 = l / 128 then (had (k % 128) (l % 128) : EReal) else 0

/-- A sum over 256 entries against the two-block matrix is the sum over the 128 entries of the column's block. -/
theorem sum_had2 (f : Fin 256 → EReal) (l : Fin 256) :
    ∑ k : Fin 256, f k * had2 k.val l.val = ∑ i : Fin 128, f ⟨128 * (l.val / 128) + i.val, by omega⟩ * (had i.val (l.val % 128) : EReal) := by
  symm
  refine Finset.sum_of_injOn (fun i : Fin 128 => (⟨128 * (l.val / 128) + i.val, by omega⟩ : Fin 256)) ?_ (fun _ _ => Finset.mem_coe.2 (Finset.mem_univ _)) ?_ ?_
  · intro a _ b _ h
    have := congrArg Fin.val h
    simp only at this
    exact Fin.ext (by omega)
  · intro k _ hk
    unfold had2
    rw [if_neg, mul_zero]
    intro e
    refine hk ⟨⟨k.val % 128, Nat.mod_lt _ (by norm_num)⟩, Finset.mem_coe.2 (Finset.mem_univ _), Fin.ext ?_⟩
    simp only
    omega
  · intro i _
    unfold had2
    simp only
    rw [if_pos (by omega), show (128 * (l.val / 128) + i.val) % 128 = i.val by omega]

/-- Column `256 k + l` of the rotated row, as a product with the two-block matrix. -/
theorem Bounded.rot_chunk {z : Fin 4096 → EReal} (hz : Bounded z) (k : Fin 16) (l : Fin 256) :
    ∑ i : Fin 256, z ⟨256 * k.val + i.val, by omega⟩ * had2 i.val l.val = ((rot z ⟨256 * k.val + l.val, by omega⟩ : ℝ) : EReal) := by
  rw [hz.rot_eq, sum_had2 (fun i => z ⟨256 * k.val + i.val, by omega⟩) l]
  refine Finset.sum_congr rfl fun i _ => ?_
  have e1 : 256 * k.val + (128 * (l.val / 128) + i.val) = 128 * ((256 * k.val + l.val) / 128) + i.val := by omega
  have e2 : l.val % 128 = (256 * k.val + l.val) % 128 := by omega
  congr 2
  · exact Fin.ext e1
  · rw [e2]

/-! ## Maxima in any order -/

/-- The larger of `x` and `-x` is the magnitude of `x`. -/
theorem coe_abs (x : ℝ) : max (x : EReal) (-(x : EReal)) = ((|x| : ℝ) : EReal) := by
  rw [← EReal.coe_neg]; exact (EReal.coe_strictMono.monotone.map_max (a := x) (b := -x)).symm

/-- Sixteen maxima in a row. -/
def nest16 (g : Fin 16 → EReal) : EReal :=
  max (max (max (max (max (max (max (max (max (max (max (max (max (max (max (g 0) (g 1)) (g 2)) (g 3)) (g 4)) (g 5)) (g 6)) (g 7)) (g 8)) (g 9)) (g 10))
    (g 11)) (g 12)) (g 13)) (g 14)) (g 15)

/-- A common bound of sixteen numbers bounds their nested maximum. -/
theorem nest16_le (g : Fin 16 → EReal) (a : EReal) (h : ∀ k, g k ≤ a) : nest16 g ≤ a := by
  simp only [nest16, max_le_iff, h, and_self]

/-- Each of sixteen numbers is at most their nested maximum. -/
theorem le_nest16 (g : Fin 16 → EReal) (k : Fin 16) : g k ≤ nest16 g := by
  fin_cases k <;> simp [nest16]

/-- The kernel's largest magnitude: lane by lane over the two halves of the sixteen chunks, then over the lanes. -/
theorem fold_nest16 (R : Fin 4096 → ℝ) :
    (Finset.univ : Finset (Fin 128)).fold max ⊥ (fun l => nest16 fun k =>
      max (((|R ⟨256 * k.val + l.val, by omega⟩| : ℝ) : EReal)) (((|R ⟨256 * k.val + (128 + l.val), by omega⟩| : ℝ) : EReal)))
      = (amax R : EReal) := by
  apply le_antisymm
  · refine Finset.fold_max_le _ |>.2 ⟨bot_le, fun l _ => nest16_le _ _ fun k => max_le ?_ ?_⟩ <;>
      exact EReal.coe_le_coe_iff.2 (le_amax R _)
  · obtain ⟨j, hj⟩ := exists_amax R
    rw [← hj]
    refine Finset.le_fold_max _ |>.2 (Or.inr ⟨⟨j.val % 128, Nat.mod_lt _ (by norm_num)⟩, Finset.mem_univ _, ?_⟩)
    refine le_trans ?_ (le_nest16 _ ⟨j.val / 256, by omega⟩)
    rcases Nat.lt_or_ge (j.val % 256) 128 with h | h
    · exact le_max_of_le_left (le_of_eq (congrArg (fun j => ((|R j| : ℝ) : EReal)) (Fin.ext (by simp only; omega))))
    · exact le_max_of_le_right (le_of_eq (congrArg (fun j => ((|R j| : ℝ) : EReal)) (Fin.ext (by simp only; omega))))

/-- The reference's largest magnitude: over the whole row, the norm inside. -/
theorem fold_norm (R : Fin 4096 → ℝ) :
    (Finset.univ : Finset (Fin 4096)).fold max ⊥ (fun j => max ((R j * hn : ℝ) : EReal) (-((R j * hn : ℝ) : EReal)))
      = ((amax R * hn : ℝ) : EReal) := by
  have e : ∀ j, max ((R j * hn : ℝ) : EReal) (-((R j * hn : ℝ) : EReal)) = ((|R j| * hn : ℝ) : EReal) := fun j => by
    rw [coe_abs, abs_mul, abs_of_pos hn_pos]
  apply le_antisymm
  · refine Finset.fold_max_le _ |>.2 ⟨bot_le, fun j _ => ?_⟩
    rw [e]
    exact EReal.coe_le_coe_iff.2 (mul_le_mul_of_nonneg_right (le_amax R j) hn_pos.le)
  · obtain ⟨j, hj⟩ := exists_amax R
    rw [← hj]
    exact Finset.le_fold_max _ |>.2 (Or.inr ⟨j, Finset.mem_univ _, (e j).ge⟩)

end Cert.Quarot

end
-- ==== Proof.Block.lean ====
/-
  WHAT THE KERNEL'S PAYLOADS ARE AT AN INDEX. Each payload of the kernel's body — a rotated chunk, the largest magnitude of a
  half, the exponent as an integer, the scale, the inverse scale, a chunk of codes, a tile of the product — read at a row and a
  column, at extended reals.
-/
module

public import proofs.«01_k».proof.Proof.Row
public import proofs.«01_k».proof.Proof.Gen.KernelIdeal.Skeleton
public import Idealize.ShloMosaic.Lib.Pointwise
public import Idealize.ShloMosaic.Lib.IndicatorCount

@[expose] public section

noncomputable section

namespace Cert.Quarot

open Idealize.ShloMosaic Cert.KernelIdeal Cert.KernelIdeal.Gen

/-- A rotated chunk: the products of a row of activations times signs with the columns of the matrix. -/
theorem chunk_apply (h x : FVec Ideal S256x256 .bf16) (s : FVec Ideal S1x256 .f32) (r l : Fin 256) :
    k0_pay81 (F := Ideal) h x s (ix2 r l) = ∑ k : Fin 256, x (ix2 r k) * s (ix2 0 k) * h (ix2 k l) := by
  pointwise [k0_pay81]

/-- The rotated chunk that is stored is the one that enters the maximum. -/
theorem chunk_stored (h x : FVec Ideal S256x256 .bf16) (s : FVec Ideal S1x256 .f32) :
    k0_pay82 (F := Ideal) h x s = k0_pay81 (F := Ideal) h x s := by
  funext j
  rw [← ix2_eta j]
  pointwise [k0_pay82]

/-- The larger magnitude of the two halves of a chunk, lane by lane. -/
def half (v : FVec Ideal S256x256 .f32) : FVec Ideal S256x128 .f32 :=
  maximumf (extractStridedSlice S256x128 ![0, 0] (absf v) slices_S256x256_o0_0_S256x128)
    (extractStridedSlice S256x128 ![0, 128] (absf v) slices_S256x256_o0_128_S256x128)

/-- Lane `l` of `half v` is the larger of the magnitudes of columns `l` and `128 + l`. -/
theorem half_apply (v : FVec Ideal S256x256 .f32) (r : Fin 256) (l : Fin 128) :
    half v (ix2 r l) = max (max (v (ix2 r ⟨l.val, by omega⟩)) (-v (ix2 r ⟨l.val, by omega⟩)))
      (max (v (ix2 r ⟨128 + l.val, by omega⟩)) (-v (ix2 r ⟨128 + l.val, by omega⟩))) := by
  pointwise [half]
  rfl

/-- Sixteen chunks' halves, the larger magnitude lane by lane. -/
def halves (C : Fin 16 → FVec Ideal S256x256 .f32) : FVec Ideal S256x128 .f32 :=
  maximumf (maximumf (maximumf (maximumf (maximumf (maximumf (maximumf (maximumf (maximumf (maximumf (maximumf (maximumf (maximumf
    (maximumf (maximumf (half (C 0)) (half (C 1))) (half (C 2))) (half (C 3))) (half (C 4))) (half (C 5))) (half (C 6))) (half (C 7)))
    (half (C 8))) (half (C 9))) (half (C 10))) (half (C 11))) (half (C 12))) (half (C 13))) (half (C 14))) (half (C 15))

/-- The lanes of all sixteen chunks are joined by the nested maximum. -/
theorem halves_apply (C : Fin 16 → FVec Ideal S256x256 .f32) (r : Fin 256) (l : Fin 128) :
    halves C (ix2 r l) = nest16 fun k => half (C k) (ix2 r l) := rfl

/-- The f32 word `0xFF800000` is minus infinity. -/
theorem ofBits_neg_inf : Ideal.ofBits .f32 0xFF800000#32 = ⊥ := by
  change Ideal.ieee 8 23 (0xFF800000#32) = ⊥
  unfold Ideal.ieee
  simp only [show ((0xFF800000#32).extractLsb' (8 + 23) 1 == 1#1) = true by decide, show ((0xFF800000#32).extractLsb' 23 8).toNat = 255 by decide,
    show ((0xFF800000#32).extractLsb' 0 23).toNat = 0 by decide]
  norm_num

/-- The exponent as a 32-bit word. -/
def expWord (t : ℝ) : BitVec 32 := if t < (2 : ℝ) ^ (-126 : ℤ) then 0#32 else BitVec.ofNat 32 (ilog t + 127).toNat - 126#32

/-- The word `k` counts as positive when the number `k` is. -/
theorem pos_word (k : Fin 256) : IntOp.cmpi CmpIPredicate.sgt (BitVec.ofNat 32 k.val) 0#32 = BitVec.ofBool (decide (0 < k.val)) := by
  revert k; decide

/-- The bit `c and k > 0` is set when both hold. -/
theorem and_word (k : Fin 256) (c : Prop) [Decidable c] :
    IntOp.andi (BitVec.ofBool (decide c)) (IntOp.cmpi CmpIPredicate.sgt (BitVec.ofNat 32 k.val) 0#32) = 1#1 ↔ c ∧ 0 < k.val := by
  rw [pos_word]
  by_cases h1 : c <;> by_cases h2 : 0 < k.val <;> simp [h1, h2, IntOp.andi]

/-- The shift of a word by 23 is the shift of bit vectors. -/
theorem shl_word (x : BitVec 32) : IntOp.shli ArithUnit.vector x 23#32 = x <<< 23 := rfl

/-- Comparing different words for equality gives the bit 0. -/
theorem eq_word_false (x y : BitVec 32) (h : x ≠ y) : IntOp.cmpi CmpIPredicate.eq x y = 0#1 := by
  unfold IntOp.cmpi
  rw [show (x == y) = false from beq_eq_false_iff_ne.2 h]
  rfl

/-- The number of positive `k` whose power of two is at most `t`: 0 below the smallest normal number, otherwise the logarithm of `t` plus 127. -/
theorem count_card (t : ℝ) (ht : t < (2 : ℝ) ^ (126 : ℤ)) :
    (Finset.univ.filter fun k : Fin 256 => IntOp.andi (BitVec.ofBool (decide
      (Ideal.ofBits .f32 (IntOp.shli ArithUnit.vector (BitVec.ofNat 32 k.val) 23#32) ≤ (t : EReal))))
      (IntOp.cmpi CmpIPredicate.sgt (BitVec.ofNat 32 k.val) 0#32) = 1#1).card
      = if t < (2 : ℝ) ^ (-126 : ℤ) then 0 else (ilog t + 127).toNat := by
  rw [← card_reached t ht]
  refine congrArg Finset.card (Finset.filter_congr fun k _ => and_word k _)

/-- The bounds of the exponent field of a number that is no subnormal. -/
theorem ilog_range (t : ℝ) (h : ¬ t < (2 : ℝ) ^ (-126 : ℤ)) (ht : t < (2 : ℝ) ^ (126 : ℤ)) : -126 ≤ ilog t ∧ ilog t ≤ 125 := by
  have hp : 0 < t := lt_of_lt_of_le (by positivity) (not_lt.1 h)
  exact ⟨le_log t (not_lt.1 h), log_le t hp ht⟩

/-- The exponent the kernel counts out, for a row of largest magnitude `a`. -/
theorem word_apply (am : FVec Ideal S256x128 .f32) (r : Fin 256) (u : Fin 1) (a : ℝ) (ht : a * hn * cn < (2 : ℝ) ^ (126 : ℤ))
    (ha : (Finset.univ : Finset (Fin 128)).fold max ⊥ (fun l => am (ix2 r l)) = (a : EReal)) :
    k0_pay206 (F := Ideal) am (ix2 r u) = expWord (a * hn * cn) := by
  pointwise [k0_pay206]
  rw [ofBits_neg_inf, ha, ofBits_hn, ofBits_cn, IndicatorCount.fold_addi_setWidth_eq_card]
  rw [← EReal.coe_mul, ← EReal.coe_mul, count_card _ ht]
  unfold expWord
  split_ifs with h1 h2 h2
  · rfl
  · exfalso
    rw [EReal.coe_eq_zero] at h1
    rw [h1, zero_mul] at h2
    exact h2 (by positivity)
  · rfl
  · obtain ⟨b1, b2⟩ := ilog_range _ h2 ht
    generalize ilog (a * hn * cn) = m at b1 b2
    obtain ⟨n, hn⟩ : ∃ n : ℕ, m + 127 = n := ⟨(m + 127).toNat, by omega⟩
    rw [hn, Int.toNat_natCast]
    have e1 : BitVec.ofNat 32 n ≠ 0#32 := fun e => by
      have := congrArg BitVec.toNat e
      simp only [BitVec.toNat_ofNat] at this
      omega
    have e2 : BitVec.ofNat 32 n ≠ 255#32 := fun e => by
      have := congrArg BitVec.toNat e
      simp only [BitVec.toNat_ofNat] at this
      omega
    rw [eq_word_false _ _ e1, eq_word_false _ _ e2]
    rfl

/-- The scale from the exponent's word: the word plus 127, in the place of an exponent field. -/
theorem scale_word (t : ℝ) (ht : t < (2 : ℝ) ^ (126 : ℤ)) :
    Ideal.ofBits .f32 (IntOp.shli ArithUnit.vector (IntOp.addi (expWord t) 127#32) 23#32) = (((2 : ℝ) ^ expo t : ℝ) : EReal) := by
  rw [shl_word]
  unfold expWord expo
  split_ifs with h
  · rw [show IntOp.addi 0#32 127#32 = BitVec.ofNat 32 127 by decide, ofBits_shift 127 (by norm_num) (by norm_num)]
    norm_num
  · obtain ⟨b1, b2⟩ := ilog_range _ h ht
    generalize ilog t = m at b1 b2
    obtain ⟨n, hn⟩ : ∃ n : ℕ, m + 127 = n := ⟨(m + 127).toNat, by omega⟩
    rw [hn, Int.toNat_natCast, show IntOp.addi (BitVec.ofNat 32 n - 126#32) 127#32 = BitVec.ofNat 32 (n + 1) from
      by unfold IntOp.addi; apply BitVec.eq_of_toNat_eq; simp only [BitVec.toNat_add, BitVec.toNat_sub, BitVec.toNat_ofNat]; omega,
      ofBits_shift (n + 1) (by omega) (by omega), show (((n + 1 : ℕ) : ℤ) - 127) = m + 1 by omega]

/-- The inverse scale from the exponent's word: the word negated. -/
theorem inv_word (t : ℝ) (ht : t < (2 : ℝ) ^ (126 : ℤ)) :
    Ideal.ofBits .f32 (IntOp.shli ArithUnit.vector (IntOp.addi (IntOp.subi 0#32 (expWord t)) 127#32) 23#32)
      = (((2 : ℝ) ^ (-expo t) : ℝ) : EReal) := by
  rw [shl_word]
  unfold expWord expo
  split_ifs with h
  · rw [show IntOp.addi (IntOp.subi 0#32 0#32) 127#32 = BitVec.ofNat 32 127 by decide, ofBits_shift 127 (by norm_num) (by norm_num)]
    norm_num
  · obtain ⟨b1, b2⟩ := ilog_range _ h ht
    generalize ilog t = m at b1 b2
    obtain ⟨n, hn⟩ : ∃ n : ℕ, m + 127 = n := ⟨(m + 127).toNat, by omega⟩
    rw [hn, Int.toNat_natCast, show IntOp.addi (IntOp.subi 0#32 (BitVec.ofNat 32 n - 126#32)) 127#32 = BitVec.ofNat 32 (253 - n) from
      by unfold IntOp.addi IntOp.subi; apply BitVec.eq_of_toNat_eq; simp only [BitVec.toNat_add, BitVec.toNat_sub, BitVec.toNat_ofNat]; omega,
      ofBits_shift (253 - n) (by omega) (by omega), show (((253 - n : ℕ) : ℤ) - 127) = -(m + 1) by omega]

/-- Every lane of the stored scale is two to the row's exponent. -/
theorem scale_apply (am : FVec Ideal S256x128 .f32) (r : Fin 256) (l : Fin 128) :
    k0_pay207 (F := Ideal) am (ix2 r l)
      = Ideal.ofBits .f32 (IntOp.shli ArithUnit.vector (IntOp.addi (k0_pay206 (F := Ideal) am (ix2 r 0)) 127#32) 23#32) := by
  pointwise [k0_pay207]

/-- The factor of a row is `1 / sqrt 128` times two to minus the exponent. -/
theorem inv_apply (e : IVec S256x1 32) (r : Fin 256) (u : Fin 1) :
    k0_pay208 (F := Ideal) e (ix2 r u) = Ideal.ofBits .f32 0x3DB504F3#32
      * Ideal.ofBits .f32 (IntOp.shli ArithUnit.vector (IntOp.addi (IntOp.subi 0#32 (e (ix2 r u))) 127#32) 23#32) := by
  pointwise [k0_pay208]

/-- A code is the rotated value times the row's factor, clipped to the fp8 range. -/
theorem code_apply (i : FVec Ideal S256x1 .f32) (v : FVec Ideal S256x256 .f32) (r l : Fin 256) :
    k0_pay226 (F := Ideal) i v (ix2 r l)
      = min (Ideal.ofBits .f32 0x43E00000#32) (max (Ideal.ofBits .f32 0xC3E00000#32) (v (ix2 r l) * i (ix2 r 0))) := by
  pointwise [k0_pay226]

/-- An output is the sum of codes times weights, times the row's scale, times the column's scale. -/
theorem out_apply (c : FVec Ideal S256x4096 .fp8e4m3) (s : FVec Ideal S256x1 .f32) (w : FVec Ideal S4096x512 .fp8e4m3)
    (ws : FVec Ideal S1x512 .f32) (r : Fin 256) (l : Fin 512) :
    k0_pay153 (F := Ideal) c s w ws (ix2 r l) = (∑ k : Fin 4096, c (ix2 r k) * w (ix2 k l)) * s (ix2 r 0) * ws (ix2 0 l) := by
  pointwise [k0_pay153]

end Cert.Quarot

end
-- ==== Proof.Rotate.lean ====
/-
  THE BODY'S BUFFERS AS WHOLE ARRAYS. A 256-row block is worked in sixteen column chunks of 256: `cut` reads a chunk, `glue` puts
  chunks side by side, and writing the sixteen pieces `cols P` leaves `glue P` whatever was there before. Over them stand
  the kernel's steps on a whole block: `rotC` its rotated chunks, `codesOf` its codes, `scaleOf` its scale and `tileOf` a tile of
  the product.
-/
module

public import proofs.«01_k».proof.Proof.Block
public import proofs.«01_k».proof.Proof.Gen.KernelIdeal.Frame
public import Idealize.ShloMosaic.Lib.WholeRead

@[expose] public section

noncomputable section

namespace Cert.Quarot

open Idealize.ShloMosaic Cert.KernelIdeal Cert.KernelIdeal.Gen

variable {e : EltTy}

/-- Column chunk `k` of a block. -/
def cut (X : Vec Ideal S256x4096 e) (k : Fin 16) : Vec Ideal S256x256 e :=
  fun j => X (ix2 (j 0) ⟨256 * k.val + (j 1).val, by have : (j 1).val < 256 := (j 1).isLt; omega⟩)

/-- Chunk `k` of a row. -/
def cut1 (X : Vec Ideal S1x4096 e) (k : Fin 16) : Vec Ideal S1x256 e :=
  fun j => X (ix2 (j 0) ⟨256 * k.val + (j 1).val, by have : (j 1).val < 256 := (j 1).isLt; omega⟩)

/-- Column tile `k` of the weights. -/
def cutW (X : Vec Ideal S4096x3584 e) (k : Fin 7) : Vec Ideal S4096x512 e :=
  fun j => X (ix2 (j 0) ⟨512 * k.val + (j 1).val, by have : (j 1).val < 512 := (j 1).isLt; omega⟩)

/-- Tile `k` of the weights' scales. -/
def cutS (X : Vec Ideal S1x3584 e) (k : Fin 7) : Vec Ideal S1x512 e :=
  fun j => X (ix2 (j 0) ⟨512 * k.val + (j 1).val, by have : (j 1).val < 512 := (j 1).isLt; omega⟩)

/-- The first column of a block of 128 equal columns. -/
def col0 (X : Vec Ideal S256x128 e) : Vec Ideal S256x1 e := fun j => X (ix2 (j 0) ⟨(j 1).val, by have : (j 1).val < 1 := (j 1).isLt; omega⟩)

/-- Sixteen chunks side by side. -/
def glue (P : Fin 16 → Vec Ideal S256x256 e) : Vec Ideal S256x4096 e :=
  fun j => P ⟨(j 1).val / 256, by have : (j 1).val < 4096 := (j 1).isLt; omega⟩ (ix2 (j 0) ⟨(j 1).val % 256, Nat.mod_lt _ (by norm_num)⟩)

section Reads

/-- A read of 256 columns from `256 k` on is the `k`-th cut. -/
theorem read_cut (m : Memref sig .tc .vmem S256x4096 e) (h : m.IsWhole) (X : Vec Ideal S256x4096 e) (k : Fin 16) (o : ℕ) (ho : o = 256 * k.val)
    (inb : ∀ a, (![0, o] : Fin 2 → ℕ) a + S256x256.size a ≤ S256x4096.size a) :
    View.readAt (Elt Ideal) m.view (Rect.unit (s := S256x4096) ![0, o] S256x256.size inb).toLoadRect (h.unread X) = cut X k := by
  subst ho
  funext j
  rw [h.readAt_unread]
  refine congrArg X (funext fun a => Fin.ext ?_)
  match a with
  | ⟨0, _⟩ => show 0 + 1 * (j 0).val = (j 0).val; omega
  | ⟨1, _⟩ => show 256 * k.val + 1 * (j 1).val = 256 * k.val + (j 1).val; omega

/-- A read of 256 signs from `256 k` on is the `k`-th cut of the signs. -/
theorem read_cut1 (m : Memref sig .tc .vmem S1x4096 e) (h : m.IsWhole) (X : Vec Ideal S1x4096 e) (k : Fin 16) (o : ℕ) (ho : o = 256 * k.val)
    (inb : ∀ a, (![0, o] : Fin 2 → ℕ) a + S1x256.size a ≤ S1x4096.size a) :
    View.readAt (Elt Ideal) m.view (Rect.unit (s := S1x4096) ![0, o] S1x256.size inb).toLoadRect (h.unread X) = cut1 X k := by
  subst ho
  funext j
  rw [h.readAt_unread]
  refine congrArg X (funext fun a => Fin.ext ?_)
  match a with
  | ⟨0, _⟩ => show 0 + 1 * (j 0).val = (j 0).val; omega
  | ⟨1, _⟩ => show 256 * k.val + 1 * (j 1).val = 256 * k.val + (j 1).val; omega

/-- A read of 512 weight columns from `512 k` on is the `k`-th cut of the weights. -/
theorem read_cutW (m : Memref sig .tc .vmem S4096x3584 e) (h : m.IsWhole) (X : Vec Ideal S4096x3584 e) (k : Fin 7) (o : ℕ) (ho : o = 512 * k.val)
    (inb : ∀ a, (![0, o] : Fin 2 → ℕ) a + S4096x512.size a ≤ S4096x3584.size a) :
    View.readAt (Elt Ideal) m.view (Rect.unit (s := S4096x3584) ![0, o] S4096x512.size inb).toLoadRect (h.unread X) = cutW X k := by
  subst ho
  funext j
  rw [h.readAt_unread]
  refine congrArg X (funext fun a => Fin.ext ?_)
  match a with
  | ⟨0, _⟩ => show 0 + 1 * (j 0).val = (j 0).val; omega
  | ⟨1, _⟩ => show 512 * k.val + 1 * (j 1).val = 512 * k.val + (j 1).val; omega

/-- A read of 512 column scales from `512 k` on is the `k`-th cut of the scales. -/
theorem read_cutS (m : Memref sig .tc .vmem S1x3584 e) (h : m.IsWhole) (X : Vec Ideal S1x3584 e) (k : Fin 7) (o : ℕ) (ho : o = 512 * k.val)
    (inb : ∀ a, (![0, o] : Fin 2 → ℕ) a + S1x512.size a ≤ S1x3584.size a) :
    View.readAt (Elt Ideal) m.view (Rect.unit (s := S1x3584) ![0, o] S1x512.size inb).toLoadRect (h.unread X) = cutS X k := by
  subst ho
  funext j
  rw [h.readAt_unread]
  refine congrArg X (funext fun a => Fin.ext ?_)
  match a with
  | ⟨0, _⟩ => show 0 + 1 * (j 0).val = (j 0).val; omega
  | ⟨1, _⟩ => show 512 * k.val + 1 * (j 1).val = 512 * k.val + (j 1).val; omega

/-- A read of the first lane of the scales is their first column. -/
theorem read_col0 (m : Memref sig .tc .vmem S256x128 e) (h : m.IsWhole) (X : Vec Ideal S256x128 e)
    (inb : ∀ a, (![0, 0] : Fin 2 → ℕ) a + S256x1.size a ≤ S256x128.size a) :
    View.readAt (Elt Ideal) m.view (Rect.unit (s := S256x128) ![0, 0] S256x1.size inb).toLoadRect (h.unread X) = col0 X := by
  funext j
  rw [h.readAt_unread]
  refine congrArg X (funext fun a => Fin.ext ?_)
  match a with
  | ⟨0, _⟩ => show 0 + 1 * (j 0).val = (j 0).val; omega
  | ⟨1, _⟩ => show 0 + 1 * (j 1).val = (j 1).val; omega

/-- A read of the whole array of codes is the array. -/
theorem read_all (m : Memref sig .tc .vmem S256x4096 e) (h : m.IsWhole) (X : Vec Ideal S256x4096 e)
    (inb : ∀ a, (![0, 0] : Fin 2 → ℕ) a + S256x4096.size a ≤ S256x4096.size a) :
    View.readAt (Elt Ideal) m.view (Rect.unit (s := S256x4096) ![0, 0] S256x4096.size inb).toLoadRect (h.unread X) = X := by
  funext j
  rw [h.readAt_unread]
  refine congrArg X (funext fun a => Fin.ext ?_)
  match a with
  | ⟨0, _⟩ => show 0 + 1 * (j 0).val = (j 0).val; omega
  | ⟨1, _⟩ => show 0 + 1 * (j 1).val = (j 1).val; omega

/-- A read of the whole table is the table. -/
theorem read_h (m : Memref sig .tc .vmem S256x256 e) (h : m.IsWhole) (X : Vec Ideal S256x256 e)
    (inb : ∀ a, (![0, 0] : Fin 2 → ℕ) a + S256x256.size a ≤ S256x256.size a) :
    View.readAt (Elt Ideal) m.view (Rect.unit (s := S256x256) ![0, 0] S256x256.size inb).toLoadRect (h.unread X) = X := by
  funext j
  rw [h.readAt_unread]
  refine congrArg X (funext fun a => Fin.ext ?_)
  match a with
  | ⟨0, _⟩ => show 0 + 1 * (j 0).val = (j 0).val; omega
  | ⟨1, _⟩ => show 0 + 1 * (j 1).val = (j 1).val; omega

end Reads

/-! ## The sixteen pieces -/

/-- The sixteen chunks as pieces written into a block, the last one first. -/
def cols (P : Fin 16 → Vec Ideal S256x256 e) : List (View.Piece (Elt Ideal) S256x4096 e) :=
  [⟨Rect.unit ![0, 3840] S256x256.size inb_S256x4096_S256x256_0_3840, P 15⟩,
   ⟨Rect.unit ![0, 3584] S256x256.size inb_S256x4096_S256x256_0_3584, P 14⟩,
   ⟨Rect.unit ![0, 3328] S256x256.size inb_S256x4096_S256x256_0_3328, P 13⟩,
   ⟨Rect.unit ![0, 3072] S256x256.size inb_S256x4096_S256x256_0_3072, P 12⟩,
   ⟨Rect.unit ![0, 2816] S256x256.size inb_S256x4096_S256x256_0_2816, P 11⟩,
   ⟨Rect.unit ![0, 2560] S256x256.size inb_S256x4096_S256x256_0_2560, P 10⟩,
   ⟨Rect.unit ![0, 2304] S256x256.size inb_S256x4096_S256x256_0_2304, P 9⟩,
   ⟨Rect.unit ![0, 2048] S256x256.size inb_S256x4096_S256x256_0_2048, P 8⟩,
   ⟨Rect.unit ![0, 1792] S256x256.size inb_S256x4096_S256x256_0_1792, P 7⟩,
   ⟨Rect.unit ![0, 1536] S256x256.size inb_S256x4096_S256x256_0_1536, P 6⟩,
   ⟨Rect.unit ![0, 1280] S256x256.size inb_S256x4096_S256x256_0_1280, P 5⟩,
   ⟨Rect.unit ![0, 1024] S256x256.size inb_S256x4096_S256x256_0_1024, P 4⟩,
   ⟨Rect.unit ![0, 768] S256x256.size inb_S256x4096_S256x256_0_768, P 3⟩,
   ⟨Rect.unit ![0, 512] S256x256.size inb_S256x4096_S256x256_0_512, P 2⟩,
   ⟨Rect.unit ![0, 256] S256x256.size inb_S256x4096_S256x256_0_256, P 1⟩,
   ⟨Rect.unit ![0, 0] S256x256.size inb_S256x4096_S256x256_0_0, P 0⟩]

/-- The glued array has piece `k` at columns `256 k ..`. -/
theorem piece_glue (P : Fin 16 → Vec Ideal S256x256 e) (k : Fin 16) (o : ℕ) (ho : o = 256 * k.val)
    (inb : ∀ a, (![0, o] : Fin 2 → ℕ) a + S256x256.size a ≤ S256x4096.size a) (x : S256x256.Idx) :
    P k x = glue P ((Rect.unit (s := S256x4096) ![0, o] S256x256.size inb).emb x) := by
  subst ho
  have h1 : (x 1).val < 256 := (x 1).isLt
  have e0 : ((Rect.unit (s := S256x4096) ![0, 256 * k.val] S256x256.size inb).emb x 0).val = (x 0).val := by
    show 0 + 1 * (x 0).val = _; omega
  have e1 : ((Rect.unit (s := S256x4096) ![0, 256 * k.val] S256x256.size inb).emb x 1).val = 256 * k.val + (x 1).val := by
    show 256 * k.val + 1 * (x 1).val = _; omega
  unfold glue
  have ek : (⟨((Rect.unit (s := S256x4096) ![0, 256 * k.val] S256x256.size inb).emb x 1).val / 256, by rw [e1]; omega⟩ : Fin 16) = k :=
    Fin.ext (by show _ / 256 = _; rw [e1]; omega)
  rw [ek]
  refine congrArg (P k) (funext fun a => Fin.ext ?_)
  match a with
  | ⟨0, _⟩ => exact e0.symm
  | ⟨1, _⟩ => show (x 1).val = _ % 256; rw [e1]; omega

/-- The sixteen pieces cover every column. -/
theorem cols_cover (P : Fin 16 → Vec Ideal S256x256 e) (y : S256x4096.Idx) : ∃ p ∈ cols P, y ∈ p.1.set :=
  View.cover_of_tiledL (cols P) S256x256.size (by sl_kernel_rfl) y

/-- Every piece is a part of the glued array. -/
theorem cols_glue (P : Fin 16 → Vec Ideal S256x256 e) : ∀ p ∈ cols P, ∀ x, p.2 x = glue P (p.1.emb x) := by
  intro p hp
  simp only [cols, List.mem_cons, List.not_mem_nil, or_false] at hp
  rcases hp with rfl | rfl | rfl | rfl | rfl | rfl | rfl | rfl | rfl | rfl | rfl | rfl | rfl | rfl | rfl | rfl
  · exact piece_glue P 15 3840 rfl inb_S256x4096_S256x256_0_3840
  · exact piece_glue P 14 3584 rfl inb_S256x4096_S256x256_0_3584
  · exact piece_glue P 13 3328 rfl inb_S256x4096_S256x256_0_3328
  · exact piece_glue P 12 3072 rfl inb_S256x4096_S256x256_0_3072
  · exact piece_glue P 11 2816 rfl inb_S256x4096_S256x256_0_2816
  · exact piece_glue P 10 2560 rfl inb_S256x4096_S256x256_0_2560
  · exact piece_glue P 9 2304 rfl inb_S256x4096_S256x256_0_2304
  · exact piece_glue P 8 2048 rfl inb_S256x4096_S256x256_0_2048
  · exact piece_glue P 7 1792 rfl inb_S256x4096_S256x256_0_1792
  · exact piece_glue P 6 1536 rfl inb_S256x4096_S256x256_0_1536
  · exact piece_glue P 5 1280 rfl inb_S256x4096_S256x256_0_1280
  · exact piece_glue P 4 1024 rfl inb_S256x4096_S256x256_0_1024
  · exact piece_glue P 3 768 rfl inb_S256x4096_S256x256_0_768
  · exact piece_glue P 2 512 rfl inb_S256x4096_S256x256_0_512
  · exact piece_glue P 1 256 rfl inb_S256x4096_S256x256_0_256
  · exact piece_glue P 0 0 rfl inb_S256x4096_S256x256_0_0

/-- Writing the sixteen pieces over anything leaves the chunks side by side. -/
theorem read_cols {κ : Kind} {sp : Space} (v : View sig κ sp S256x4096 e) (f : v.ty.Contents (Elt Ideal)) (P : Fin 16 → Vec Ideal S256x256 e)
    (L : List (View.Piece (Elt Ideal) S256x4096 e)) (y : S256x4096.Idx) : v.read (Elt Ideal) (v.writes (Elt Ideal) f (cols P ++ L)) y = glue P y := by
  rw [View.writes_append]
  exact View.read_writes_apply_of_pieces v _ _ _ (cols_glue P) y (cols_cover P y)

/-- Reading chunk `k` back from the sixteen pieces, written over anything. -/
theorem cov_cut {κ : Kind} {sp : Space} (v : View sig κ sp S256x4096 e) (P : Fin 16 → Vec Ideal S256x256 e)
    (L : List (View.Piece (Elt Ideal) S256x4096 e)) (k : Fin 16) (o : ℕ) (ho : o = 256 * k.val)
    (inb : ∀ a, (![0, o] : Fin 2 → ℕ) a + S256x256.size a ≤ S256x4096.size a) :
    v.readCov (cols P ++ L) (Rect.unit (s := S256x4096) ![0, o] S256x256.size inb).toLoadRect = P k := by
  funext j
  refine (read_cols v _ P L _).trans (piece_glue P k o ho inb j).symm

/-- Reading the whole block back from the sixteen pieces. -/
theorem cov_all {κ : Kind} {sp : Space} (v : View sig κ sp S256x4096 e) (P : Fin 16 → Vec Ideal S256x256 e)
    (L : List (View.Piece (Elt Ideal) S256x4096 e))
    (inb : ∀ a, (![0, 0] : Fin 2 → ℕ) a + S256x4096.size a ≤ S256x4096.size a) :
    v.readCov (cols P ++ L) (Rect.unit (s := S256x4096) ![0, 0] S256x4096.size inb).toLoadRect = glue P := by
  funext j
  refine (read_cols v _ P L _).trans (congrArg (glue P) (funext fun a => Fin.ext ?_))
  match a with
  | ⟨0, _⟩ => show 0 + 1 * (j 0).val = (j 0).val; omega
  | ⟨1, _⟩ => show 0 + 1 * (j 1).val = (j 1).val; omega

/-- Reading columns `256 k ..` after the sixteen writes gives piece `k`. -/
theorem cov_cut_nil {κ : Kind} {sp : Space} (v : View sig κ sp S256x4096 e) (P : Fin 16 → Vec Ideal S256x256 e) (k : Fin 16) (o : ℕ)
    (ho : o = 256 * k.val) (inb : ∀ a, (![0, o] : Fin 2 → ℕ) a + S256x256.size a ≤ S256x4096.size a) :
    v.readCov (cols P) (Rect.unit (s := S256x4096) ![0, o] S256x256.size inb).toLoadRect = P k :=
  cov_cut v P [] k o ho inb

/-- Reading everything after the sixteen writes gives the glued array. -/
theorem cov_all_nil {κ : Kind} {sp : Space} (v : View sig κ sp S256x4096 e) (P : Fin 16 → Vec Ideal S256x256 e)
    (inb : ∀ a, (![0, 0] : Fin 2 → ℕ) a + S256x4096.size a ≤ S256x4096.size a) :
    v.readCov (cols P) (Rect.unit (s := S256x4096) ![0, 0] S256x4096.size inb).toLoadRect = glue P :=
  cov_all v P [] inb

/-- Reading the first column back from one piece over the whole buffer. -/
theorem cov_col0 {κ : Kind} {sp : Space} (v : View sig κ sp S256x128 e) (X : Vec Ideal S256x128 e)
    (inb : ∀ a, (![0, 0] : Fin 2 → ℕ) a + S256x1.size a ≤ S256x128.size a) :
    v.readCov [(⟨Rect.unit ![0, 0] S256x128.size inb_S256x128_S256x128_0_0, X⟩ : View.Piece (Elt Ideal) S256x128 e)]
      (Rect.unit (s := S256x128) ![0, 0] S256x1.size inb).toLoadRect = col0 X := by
  funext j
  have hG : ∀ p ∈ [(⟨Rect.unit ![0, 0] S256x128.size inb_S256x128_S256x128_0_0, X⟩ : View.Piece (Elt Ideal) S256x128 e)], ∀ x, p.2 x = X (p.1.emb x) := by
    intro p hp
    rw [List.mem_singleton] at hp
    subst hp
    intro x
    refine congrArg X (funext fun a => Fin.ext ?_)
    match a with
    | ⟨0, _⟩ => show (x 0).val = 0 + 1 * (x 0).val; omega
    | ⟨1, _⟩ => show (x 1).val = 0 + 1 * (x 1).val; omega
  refine (View.read_writes_apply_of_pieces v _ X _ hG _ (View.cover_of_tiledL _ S256x128.size (by sl_kernel_rfl) _)).trans
    (congrArg X (funext fun a => Fin.ext ?_))
  match a with
  | ⟨0, _⟩ => show 0 + 1 * (j 0).val = (j 0).val; omega
  | ⟨1, _⟩ => show 0 + 1 * (j 1).val = (j 1).val; omega

/-! ## The steps on a block -/

/-- A block's rotated chunks. -/
def rawC (h : Vec Ideal S256x256 .bf16) (x : Vec Ideal S256x4096 .bf16) (s : Vec Ideal S1x4096 .f32) (k : Fin 16) : Vec Ideal S256x256 .f32 :=
  k0_pay81 (F := Ideal) h (cut x k) (cut1 s k)

/-- The chunks as they are stored. -/
def rotC (h : Vec Ideal S256x256 .bf16) (x : Vec Ideal S256x4096 .bf16) (s : Vec Ideal S1x4096 .f32) (k : Fin 16) : Vec Ideal S256x256 .f32 :=
  k0_pay82 (F := Ideal) h (cut x k) (cut1 s k)

/-- Storing a chunk leaves it as it is. -/
theorem rotC_eq (h : Vec Ideal S256x256 .bf16) (x : Vec Ideal S256x4096 .bf16) (s : Vec Ideal S1x4096 .f32) (k : Fin 16) :
    rotC h x s k = rawC h x s k := chunk_stored h (cut x k) (cut1 s k)

/-- The largest magnitudes of a block's chunks, 128 to a row. -/
def amaxOf (h : Vec Ideal S256x256 .bf16) (x : Vec Ideal S256x4096 .bf16) (s : Vec Ideal S1x4096 .f32) : Vec Ideal S256x128 .f32 :=
  halves (rawC h x s)

/-- Its chunks of codes. -/
def codeC (h : Vec Ideal S256x256 .bf16) (x : Vec Ideal S256x4096 .bf16) (s : Vec Ideal S1x4096 .f32) (k : Fin 16) : Vec Ideal S256x256 .fp8e4m3 :=
  k0_pay226 (F := Ideal) (k0_pay208 (F := Ideal) (k0_pay206 (F := Ideal) (amaxOf h x s))) (rotC h x s k)

/-- Its codes. -/
def codesOf (h : Vec Ideal S256x256 .bf16) (x : Vec Ideal S256x4096 .bf16) (s : Vec Ideal S1x4096 .f32) : Vec Ideal S256x4096 .fp8e4m3 :=
  glue (codeC h x s)

/-- Its scale, in 128 equal columns. -/
def scaleOf (h : Vec Ideal S256x256 .bf16) (x : Vec Ideal S256x4096 .bf16) (s : Vec Ideal S1x4096 .f32) : Vec Ideal S256x128 .f32 :=
  k0_pay207 (F := Ideal) (amaxOf h x s)

/-- A tile of the product of codes with the weights. -/
def tileOf (c : Vec Ideal S256x4096 .fp8e4m3) (sc : Vec Ideal S256x128 .f32) (w : Vec Ideal S4096x3584 .fp8e4m3) (ws : Vec Ideal S1x3584 .f32)
    (k : Fin 7) : Vec Ideal S256x512 .bf16 :=
  k0_pay153 (F := Ideal) c (col0 sc) (cutW w k) (cutS ws k)

end Cert.Quarot

end
-- ==== Proof.Rows.lean ====
/-
  A BLOCK'S ROWS: the steps of the kernel's body on a block, read a row at a time.

  With the two-block sign matrix in `h`, row `r` of a block holds activations times signs `z`; its codes, its scale and its product with
  the weights are the ones of `Row.lean`, for a row whose entries are finite.
-/
module

public import proofs.«01_k».proof.Proof.Rotate

@[expose] public section

noncomputable section

namespace Cert.Quarot

open Idealize.ShloMosaic Cert.KernelIdeal Cert.KernelIdeal.Gen

/-- Row `r` of a block, times the signs. -/
def zrow (x : Vec Ideal S256x4096 .bf16) (s : Vec Ideal S1x4096 .f32) (r : Fin 256) : Fin 4096 → EReal := fun j => x (ix2 r j) * s (ix2 0 j)

/-- `h` holds the two-block sign matrix. -/
def IsTable (h : Vec Ideal S256x256 .bf16) : Prop := ∀ k l : Fin 256, h (ix2 k l) = had2 k.val l.val

section
variable (h : Vec Ideal S256x256 .bf16) (x : Vec Ideal S256x4096 .bf16) (s : Vec Ideal S1x4096 .f32) (r : Fin 256)

/-- Chunk `k` of the rotated block holds the rotated row. -/
theorem rawC_apply (hh : IsTable h) (hz : Bounded (zrow x s r)) (k : Fin 16) (l : Fin 256) :
    rawC h x s k (ix2 r l) = ((rot (zrow x s r) ⟨256 * k.val + l.val, by omega⟩ : ℝ) : EReal) := by
  unfold rawC
  rw [chunk_apply, ← hz.rot_chunk k l]
  refine Finset.sum_congr rfl fun i _ => ?_
  rw [hh]
  rfl

/-- The joined halves of a chunk of real numbers. -/
theorem half_coe (C : FVec Ideal S256x256 .f32) (R : Fin 256 → ℝ) (l : Fin 128) (hC : ∀ l, C (ix2 r l) = (R l : EReal)) :
    half C (ix2 r l) = max ((|R ⟨l.val, by omega⟩| : ℝ) : EReal) ((|R ⟨128 + l.val, by omega⟩| : ℝ) : EReal) := by
  rw [half_apply, hC, hC, coe_abs, coe_abs]

/-- The maximum over the lanes is the maximum of the rotated row. -/
theorem amax_apply (hh : IsTable h) (hz : Bounded (zrow x s r)) :
    (Finset.univ : Finset (Fin 128)).fold max ⊥ (fun l => amaxOf h x s (ix2 r l)) = (amax (rot (zrow x s r)) : EReal) := by
  rw [← fold_nest16]
  refine congrArg (Finset.univ.fold max ⊥) (funext fun l => ?_)
  unfold amaxOf
  rw [halves_apply]
  refine congrArg nest16 (funext fun k => ?_)
  exact half_coe r _ (fun l => rot (zrow x s r) ⟨256 * k.val + l.val, by omega⟩) l (rawC_apply h x s r hh hz k)

/-- The exponent word of a row is that of its level. -/
theorem word_row (hh : IsTable h) (hz : Bounded (zrow x s r)) (u : Fin 1) :
    k0_pay206 (F := Ideal) (amaxOf h x s) (ix2 r u) = expWord (level (zrow x s r)) :=
  word_apply (amaxOf h x s) r u _ hz.level_lt (amax_apply h x s r hh hz)

/-- The scale of a block, row by row. -/
theorem scale_row (hh : IsTable h) (hz : Bounded (zrow x s r)) (l : Fin 128) : scaleOf h x s (ix2 r l) = rowScale (zrow x s r) := by
  unfold scaleOf
  rw [scale_apply, word_row h x s r hh hz, scale_word _ hz.level_lt]
  rfl

/-- Chunk `k` of the codes holds the codes of the row. -/
theorem codeC_row (hh : IsTable h) (hz : Bounded (zrow x s r)) (k : Fin 16) (l : Fin 256) :
    codeC h x s k (ix2 r l) = rowCode (zrow x s r) ⟨256 * k.val + l.val, by omega⟩ := by
  unfold codeC
  rw [code_apply, rotC_eq, rawC_apply h x s r hh hz, inv_apply, word_row h x s r hh hz, inv_word _ hz.level_lt, ofBits_hn, ← EReal.coe_mul,
    ← EReal.coe_mul]
  rfl

/-- The codes of a block, row by row. -/
theorem codes_row (hh : IsTable h) (hz : Bounded (zrow x s r)) (j : Fin 4096) : codesOf h x s (ix2 r j) = rowCode (zrow x s r) j := by
  unfold codesOf glue
  refine (codeC_row h x s r hh hz ⟨j.val / 256, by omega⟩ ⟨j.val % 256, by omega⟩).trans (congrArg (rowCode (zrow x s r)) (Fin.ext ?_))
  show 256 * (j.val / 256) + j.val % 256 = j.val
  omega

end

/-- A tile of the product, row by row. -/
theorem tile_row (c : Vec Ideal S256x4096 .fp8e4m3) (sc : Vec Ideal S256x128 .f32) (w : Vec Ideal S4096x3584 .fp8e4m3) (ws : Vec Ideal S1x3584 .f32)
    (z : Fin 4096 → EReal) (r : Fin 256) (hc : ∀ j, c (ix2 r j) = rowCode z j) (hs : sc (ix2 r 0) = rowScale z) (k : Fin 7) (l : Fin 512) :
    tileOf c sc w ws k (ix2 r l) = rowOut z (fun j n => w (ix2 j n)) (fun n => ws (ix2 0 n)) (⟨512 * k.val + l.val, by omega⟩ : Fin 3584) := by
  unfold tileOf rowOut
  rw [out_apply]
  refine congrArg₂ (· * ·) (congrArg₂ (· * ·) (Finset.sum_congr rfl fun i _ => ?_) ?_) rfl
  · rw [hc]; rfl
  · exact hs

end Cert.Quarot

end
-- ==== Proof.Words.lean ====
/-
  THE WORDS OF THE SIGN TABLE. The 256x256 constant the kernel multiplies chunks by holds the sign matrix of 128 points twice on
  the diagonal and 0 elsewhere; here the bf16 word of each entry, and what it is as an extended real.
-/
module

public import proofs.«01_k».proof.Proof.Row
public import Idealize.ShloMosaic.Lib.IdealHost
public import proofs.«01_k».proof.KernelIdeal
import all proofs.«01_k».proof.KernelIdeal

@[expose] public section

noncomputable section

namespace Cert.Quarot

open Idealize.ShloMosaic Cert.KernelIdeal

/-- The bf16 word of an entry: 1 or −1 in a diagonal block, 0 or −0 outside. -/
def tableWord (r c : ℕ) : BitVec 16 :=
  if r / 128 = c / 128 then (if par 7 (r % 128) (c % 128) then 0xBF80#16 else 0x3F80#16) else (if par 7 (r % 128) (c % 128) then 0x8000#16 else 0#16)

/-- The bf16 word `0x8000` is minus zero, read as 0. -/
theorem ofBits_neg_zero : Ideal.ofBits .bf16 0x8000#16 = 0 := by
  simp [Ideal.ofBits, Ideal.ieee]

/-- An entry's word read as an extended real. -/
theorem ofBits_tableWord (r c : ℕ) : Ideal.ofBits .bf16 (tableWord r c) = had2 r c := by
  unfold tableWord had2 had sgn
  split <;> split
  · rw [Ideal.ofBits_neg_one_bf16]; rfl
  · rw [Ideal.ofBits_one_bf16]; rfl
  · exact ofBits_neg_zero
  · exact Ideal.ofBits_zero_bf16

end Cert.Quarot

end
-- ==== Proof.Words0.lean ====
/-
  THE SIGN TABLE'S ROWS 0 TO 63, compared with their words entry by entry.
-/
module

public import proofs.«01_k».proof.Proof.Words
import all proofs.«01_k».proof.KernelIdeal

@[expose] public section

set_option maxRecDepth 100000

noncomputable section

namespace Cert.Quarot

open Idealize.ShloMosaic Cert.KernelIdeal

/-- Rows 0 to 15. -/
theorem words_0 : ∀ r : Fin 16, ∀ c : Fin 256, lit0t ((0 + r.val) * 256 + c.val) = tableWord (0 + r.val) c.val := by decide +kernel

/-- Rows 16 to 31. -/
theorem words_16 : ∀ r : Fin 16, ∀ c : Fin 256, lit0t ((16 + r.val) * 256 + c.val) = tableWord (16 + r.val) c.val := by decide +kernel

/-- Rows 32 to 47. -/
theorem words_32 : ∀ r : Fin 16, ∀ c : Fin 256, lit0t ((32 + r.val) * 256 + c.val) = tableWord (32 + r.val) c.val := by decide +kernel

/-- Rows 48 to 63. -/
theorem words_48 : ∀ r : Fin 16, ∀ c : Fin 256, lit0t ((48 + r.val) * 256 + c.val) = tableWord (48 + r.val) c.val := by decide +kernel

end Cert.Quarot

end
-- ==== Proof.Words1.lean ====
/-
  THE SIGN TABLE'S ROWS 64 TO 127, compared with their words entry by entry.
-/
module

public import proofs.«01_k».proof.Proof.Words
import all proofs.«01_k».proof.KernelIdeal

@[expose] public section

set_option maxRecDepth 100000

noncomputable section

namespace Cert.Quarot

open Idealize.ShloMosaic Cert.KernelIdeal

/-- Rows 64 to 79. -/
theorem words_64 : ∀ r : Fin 16, ∀ c : Fin 256, lit0t ((64 + r.val) * 256 + c.val) = tableWord (64 + r.val) c.val := by decide +kernel

/-- Rows 80 to 95. -/
theorem words_80 : ∀ r : Fin 16, ∀ c : Fin 256, lit0t ((80 + r.val) * 256 + c.val) = tableWord (80 + r.val) c.val := by decide +kernel

/-- Rows 96 to 111. -/
theorem words_96 : ∀ r : Fin 16, ∀ c : Fin 256, lit0t ((96 + r.val) * 256 + c.val) = tableWord (96 + r.val) c.val := by decide +kernel

/-- Rows 112 to 127. -/
theorem words_112 : ∀ r : Fin 16, ∀ c : Fin 256, lit0t ((112 + r.val) * 256 + c.val) = tableWord (112 + r.val) c.val := by decide +kernel

end Cert.Quarot

end
-- ==== Proof.Words2.lean ====
/-
  THE SIGN TABLE'S ROWS 128 TO 191, compared with their words entry by entry.
-/
module

public import proofs.«01_k».proof.Proof.Words
import all proofs.«01_k».proof.KernelIdeal

@[expose] public section

set_option maxRecDepth 100000

noncomputable section

namespace Cert.Quarot

open Idealize.ShloMosaic Cert.KernelIdeal

/-- Rows 128 to 143. -/
theorem words_128 : ∀ r : Fin 16, ∀ c : Fin 256, lit0t ((128 + r.val) * 256 + c.val) = tableWord (128 + r.val) c.val := by decide +kernel

/-- Rows 144 to 159. -/
theorem words_144 : ∀ r : Fin 16, ∀ c : Fin 256, lit0t ((144 + r.val) * 256 + c.val) = tableWord (144 + r.val) c.val := by decide +kernel

/-- Rows 160 to 175. -/
theorem words_160 : ∀ r : Fin 16, ∀ c : Fin 256, lit0t ((160 + r.val) * 256 + c.val) = tableWord (160 + r.val) c.val := by decide +kernel

/-- Rows 176 to 191. -/
theorem words_176 : ∀ r : Fin 16, ∀ c : Fin 256, lit0t ((176 + r.val) * 256 + c.val) = tableWord (176 + r.val) c.val := by decide +kernel

end Cert.Quarot

end
-- ==== Proof.Words3.lean ====
/-
  THE SIGN TABLE'S ROWS 192 TO 255, compared with their words entry by entry.
-/
module

public import proofs.«01_k».proof.Proof.Words
import all proofs.«01_k».proof.KernelIdeal

@[expose] public section

set_option maxRecDepth 100000

noncomputable section

namespace Cert.Quarot

open Idealize.ShloMosaic Cert.KernelIdeal

/-- Rows 192 to 207. -/
theorem words_192 : ∀ r : Fin 16, ∀ c : Fin 256, lit0t ((192 + r.val) * 256 + c.val) = tableWord (192 + r.val) c.val := by decide +kernel

/-- Rows 208 to 223. -/
theorem words_208 : ∀ r : Fin 16, ∀ c : Fin 256, lit0t ((208 + r.val) * 256 + c.val) = tableWord (208 + r.val) c.val := by decide +kernel

/-- Rows 224 to 239. -/
theorem words_224 : ∀ r : Fin 16, ∀ c : Fin 256, lit0t ((224 + r.val) * 256 + c.val) = tableWord (224 + r.val) c.val := by decide +kernel

/-- Rows 240 to 255. -/
theorem words_240 : ∀ r : Fin 16, ∀ c : Fin 256, lit0t ((240 + r.val) * 256 + c.val) = tableWord (240 + r.val) c.val := by decide +kernel

end Cert.Quarot

end
-- ==== Proof.Table.lean ====
/-
  THE SIGN TABLE. The 256x256 constant the kernel multiplies chunks by, entry by entry: the sign matrix of 128 points twice on the
  diagonal, 0 elsewhere.
-/
module

public import proofs.«01_k».proof.Proof.Words0
public import proofs.«01_k».proof.Proof.Words1
public import proofs.«01_k».proof.Proof.Words2
public import proofs.«01_k».proof.Proof.Words3
public import Idealize.ShloMosaic.Lib.Pointwise

@[expose] public section

noncomputable section

namespace Cert.Quarot

open Idealize.ShloMosaic Cert.KernelIdeal

/-- The printed table holds the word of every row and column. -/
theorem lit0_words (r c : Fin 256) : lit0t (r.val * 256 + c.val) = tableWord r.val c.val := by
  have step : ∀ b : ℕ, (∀ s : Fin 16, ∀ c : Fin 256, lit0t ((b + s.val) * 256 + c.val) = tableWord (b + s.val) c.val) → b ≤ r.val → r.val < b + 16 →
      lit0t (r.val * 256 + c.val) = tableWord r.val c.val := by
    intro b hb h1 h2
    have := hb ⟨r.val - b, by omega⟩ c
    simp only [show b + (r.val - b) = r.val by omega] at this
    exact this
  obtain ⟨q, hq⟩ : ∃ q : Fin 16, q.val = r.val / 16 := ⟨⟨r.val / 16, by omega⟩, rfl⟩
  have h1 : 16 * q.val ≤ r.val := by omega
  have h2 : r.val < 16 * q.val + 16 := by omega
  fin_cases q
  · exact step 0 words_0 h1 h2
  · exact step 16 words_16 h1 h2
  · exact step 32 words_32 h1 h2
  · exact step 48 words_48 h1 h2
  · exact step 64 words_64 h1 h2
  · exact step 80 words_80 h1 h2
  · exact step 96 words_96 h1 h2
  · exact step 112 words_112 h1 h2
  · exact step 128 words_128 h1 h2
  · exact step 144 words_144 h1 h2
  · exact step 160 words_160 h1 h2
  · exact step 176 words_176 h1 h2
  · exact step 192 words_192 h1 h2
  · exact step 208 words_208 h1 h2
  · exact step 224 words_224 h1 h2
  · exact step 240 words_240 h1 h2

/-- The printed table, read at extended reals, is the two-block sign matrix. -/
theorem table_apply (k l : Fin 256) : Ideal.ofBits .bf16 (lit0 (S256x256.rowMajor (ix2 k l))) = had2 k.val l.val := by
  rw [← ofBits_tableWord, ← lit0_words]
  have e : (S256x256.rowMajor (ix2 k l)).val = k.val * 256 + l.val := Shape.rowMajor_val_two _
  have f : ∀ i : Fin 65536, lit0 i = lit0t i.val := fun ⟨_, _⟩ => rfl
  exact congrArg (Ideal.ofBits .bf16) ((f _).trans (congrArg lit0t e))

end Cert.Quarot

end
-- ==== Proof.KernelRun.lean ====
/-
  THE KERNEL'S RUN, its three result arrays named. What the results and the two carried buffers hold after each grid point is
  one fold from the first point (`stAt0` is a step, `junk0` the start); each result array is that fold read, at the point
  that writes the block holding the index (`G7` the product, `G8` the codes, `G9` the scales). `run` is the run with the
  arrays so named.
-/
module

public import proofs.«01_k».proof.Proof.Gen.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S512x3584 .bf16 × Vec F S512x4096 .fp8e4m3 × Vec F S512x1 .f32 × Vec F S256x4096 .fp8e4m3 × Vec F S256x128 .f32 :=
  ((VO0_7.read (Elt F) VO0_7.junk, VO0_8.read (Elt F) VO0_8.junk, VO0_9.read (Elt F) VO0_9.junk, VS0_1.read (Elt F) VS0_1.junk, VS0_3.read (Elt F) VS0_3.junk) : Vec F S512x3584 .bf16 × Vec F S512x4096 .fp8e4m3 × Vec F S512x1 .f32 × Vec F S256x4096 .fp8e4m3 × Vec F S256x128 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S512x3584 .bf16 × Vec F S512x4096 .fp8e4m3 × Vec F S512x1 .f32 × Vec F S256x4096 .fp8e4m3 × Vec F S256x128 .f32) : Vec F S512x3584 .bf16 × Vec F S512x4096 .fp8e4m3 × Vec F S512x1 .f32 × Vec F S256x4096 .fp8e4m3 × Vec F S256x128 .f32 :=
  if h0 : n % 16 = 0 then
    (out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), out0_A_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), sout0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)))
  else
    (out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2, out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2, out0_B_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2, sout0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2)

/-- `stAt0` at a point of case A: that case's contents. -/
theorem stAt0_A (c : Dev nD) (t : Fin cfg0.N) (acc : Vec F S512x3584 .bf16 × Vec F S512x4096 .fp8e4m3 × Vec F S512x1 .f32 × Vec F S256x4096 .fp8e4m3 × Vec F S256x128 .f32) (h0 : t.val % 16 = 0) :
    stAt0 m c t.val t.isLt acc = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t)) :=
  (dif_pos h0).trans rfl

/-- `stAt0` at a point of case B: that case's contents, over `acc`. -/
theorem stAt0_B (c : Dev nD) (t : Fin cfg0.N) (acc : Vec F S512x3584 .bf16 × Vec F S512x4096 .fp8e4m3 × Vec F S512x1 .f32 × Vec F S256x4096 .fp8e4m3 × Vec F S256x128 .f32) (h0 : ¬t.val % 16 = 0) :
    stAt0 m c t.val t.isLt acc = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) acc.2.2.2.1 acc.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) acc.2.2.2.1 acc.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) acc.2.2.2.1 acc.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) acc.2.2.2.1 acc.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) acc.2.2.2.1 acc.2.2.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := by
  have h0 : ¬(n + 1) % 16 = 0 := by
    have hN := lt_of_lt_of_eq hn (show cfg0.N = 16 from N_0)
    omega
  rw [outsAt0_B m c ⟨n + 1, hn⟩ h0, stAt0_B m c ⟨n + 1, hn⟩ _ h0]
  rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 16 from N_0)
  have e := Pipeline.eq_accAt_of_mod (fun n h => outsAt0 m c n h) 16 (fun n h => stAt0 m c n h junk0) (stAt0 m c)
    (fun n h _ => by
      have hN := lt_of_lt_of_eq h (show cfg0.N = 16 from N_0)
      obtain rfl : n = 0 := by omega
      exact outsAt0_zero m c h)
    (fun n h _ => outsAt0_succ m c n h)
    (by decide) n hn (by have := Nat.div_add_mod n 16; omega)
  have hd : n / 16 = 0 := Nat.div_eq_of_lt hN
  have hm : n % 16 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 7 -/

/-- The block of the array that holds index `i`, numbered in the order the points write the blocks back (one per point),
    `i`'s place in it, and the point that writes it back. -/
abbrev run7Of (i : S8192x3584.Idx) : ℕ := 1 * ((i 0).val / 512 - 0) + 1 * ((i 1).val / 3584 - 0)
set_option backward.proofsInPublic true in
abbrev loc7Of (i : S8192x3584.Idx) : S512x3584.Idx := fun a => match a with
  | ⟨0, _⟩ => ⟨(i 0).val % 512, Nat.mod_lt _ (by decide)⟩
  | ⟨1, _⟩ => ⟨(i 1).val % 3584, Nat.mod_lt _ (by decide)⟩
abbrev pt7Of (i : S8192x3584.Idx) : ℕ := run7Of i

/-- WHAT THE ARRAY ENDS HOLDING at index `i` inside the box the flushing blocks fill: output 7's component of the carried
    state's fold at the point that writes `i`'s block back, at `i`'s place in the block. `G7` states the array's contents
    only inside the box. -/
def G7 (c : Dev nD) : Buf (Elt F) ((c : Thread nD τ).loc main_v3_0) := fun i =>
  if h : pt7Of i < cfg0.N then
    (Pipeline.accAt (fun n h => stAt0 m c n h junk0) (stAt0 m c) 0 (pt7Of i) (by omega)).1 (loc7Of i)
  else V m c (Pipeline.arrRef spec0 7) i

/-- The printed index map, decided over the grid: output window 7's block indices stay in the box, and the block number
    read off them is the point's (`t`). -/
theorem idx_facts7 : ∀ t : Fin cfg0.N, 0 ≤ win0_7.index t (0 : Fin 2) ∧ win0_7.index t (0 : Fin 2) ≤ 15
    ∧ 0 ≤ win0_7.index t (1 : Fin 2) ∧ win0_7.index t (1 : Fin 2) ≤ 0
    ∧ 1 * (win0_7.index t (0 : Fin 2) - 0) + 1 * (win0_7.index t (1 : Fin 2) - 0) = t.val :=
  (by decide +kernel : ∀ t : Fin grid0.N, _)

/-- Every block of the box is SOME flushing point's: `onto7Pt`, the point that writes back the block at place `q` of the box. -/
abbrev onto7Pt (q0 : Fin 16) (q1 : Fin 1) : Fin grid0.N :=
  ⟨1 * q0.val + 1 * q1.val, lt_of_lt_of_eq (by omega) N_0.symm⟩
/-- Every block of the product is written back by some grid point. -/
theorem idx_onto7 : ∀ (q0 : Fin 16) (q1 : Fin 1), ∃ t : Fin cfg0.N, (cfg0.win 7).flush t = true ∧ win0_7.index t = ![q0.val + 0, q1.val + 0] :=
  fun q0 q1 => ⟨onto7Pt q0 q1, (by decide +kernel : ∀ (q0 : Fin 16) (q1 : Fin 1), win0_7.flush (onto7Pt q0 q1) = true ∧ win0_7.index (onto7Pt q0 q1) = ![q0.val + 0, q1.val + 0]) q0 q1⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  obtain ⟨e0, e1, e2⟩ := idx_facts7 t
  funext y
  have hy0 : (y 0).val < 512 := (y 0).isLt
  have hy1 : (y 1).val < 3584 := (y 1).isLt
  have hb0 : (((cfg0.win 7).blk t).view.emb y 0).val = win0_7.index t (0 : Fin 2) * 512 + 1 * (y 0).val := rfl
  have hb1 : (((cfg0.win 7).blk t).view.emb y 1).val = win0_7.index t (1 : Fin 2) * 3584 + 1 * (y 1).val := rfl
  have hr : run7Of (((cfg0.win 7).blk t).view.emb y) = t.val := by
    show 1 * ((((cfg0.win 7).blk t).view.emb y 0).val / 512 - 0) + 1 * ((((cfg0.win 7).blk t).view.emb y 1).val / 3584 - 0) = _
    rw [hb0, hb1]
    rw [show (win0_7.index t (0 : Fin 2) * 512 + 1 * (y 0).val) / 512 = win0_7.index t (0 : Fin 2) from by omega]; rw [show (win0_7.index t (1 : Fin 2) * 3584 + 1 * (y 1).val) / 3584 = win0_7.index t (1 : Fin 2) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 512 = (y 0).val; rw [hb0]; omega
    | ⟨1, _⟩ => show (((cfg0.win 7).blk t).view.emb y 1).val % 3584 = (y 1).val; rw [hb1]; omega
  have hp : pt7Of (((cfg0.win 7).blk t).view.emb y) = t.val := by
    exact hr
  show (Pipeline.accAt (fun n h => stAt0 m c n h junk0) (stAt0 m c) 0 t.val _).1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S8192x3584.Idx) :
    i ∈ ((cfg0.win 7).blk t).view.set ↔ ∀ a : Fin 2, win0_7.index t a * S512x3584.size a ≤ (i a).val ∧ (i a).val < win0_7.index t a * S512x3584.size a + S512x3584.size a := by
  show i ∈ ((View.whole main_v3_0).slice (win0_7.rect t)).set ↔ _
  rw [View.set_slice_whole, Rect.mem_set_unit]
  exact Iff.rfl

/-- THE COVERED INDICES: in some flushing point's block iff inside the box those blocks fill. -/
theorem covered_iff7 (i : S8192x3584.Idx) :
    (∃ t : Fin cfg0.N, (cfg0.win 7).flush t = true ∧ i ∈ ((cfg0.win 7).blk t).view.set) ↔ 0 ≤ (i 0).val ∧ (i 0).val < 8192 ∧ 0 ≤ (i 1).val ∧ (i 1).val < 3584 := by
  constructor
  · rintro ⟨t, -, hi⟩
    rw [mem_blk7] at hi
    have b0 : win0_7.index t (0 : Fin 2) * 512 ≤ (i 0).val ∧ (i 0).val < win0_7.index t (0 : Fin 2) * 512 + 512 := hi 0
    have b1 : win0_7.index t (1 : Fin 2) * 3584 ≤ (i 1).val ∧ (i 1).val < win0_7.index t (1 : Fin 2) * 3584 + 3584 := hi 1
    obtain ⟨e0, e1, e2⟩ := idx_facts7 t
    omega
  · intro h
    have hi0 : (i 0).val < 8192 := (i 0).isLt
    have hi1 : (i 1).val < 3584 := (i 1).isLt
    obtain ⟨t, hft, ht⟩ := idx_onto7 ⟨(i 0).val / 512 - 0, by omega⟩ ⟨(i 1).val / 3584 - 0, by omega⟩
    have q0 : win0_7.index t (0 : Fin 2) = (i 0).val / 512 - 0 + 0 := congrFun ht 0
    have q1 : win0_7.index t (1 : Fin 2) = (i 1).val / 3584 - 0 + 0 := congrFun ht 1
    refine ⟨t, hft, ?_⟩
    rw [mem_blk7]
    intro a
    match a with
    | ⟨0, _⟩ => show win0_7.index t (0 : Fin 2) * 512 ≤ (i 0).val ∧ (i 0).val < win0_7.index t (0 : Fin 2) * 512 + 512; omega
    | ⟨1, _⟩ => show win0_7.index t (1 : Fin 2) * 3584 ≤ (i 1).val ∧ (i 1).val < win0_7.index t (1 : Fin 2) * 3584 + 3584; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 8192 := (i 0).isLt; have h1 : (i 1).val < 3584 := (i 1).isLt; omega))

/-! ## Output window 8 -/

/-- The block of the array that holds index `i`, numbered in the order the points write the blocks back (one per point),
    `i`'s place in it, and the point that writes it back. -/
abbrev run8Of (i : S8192x4096.Idx) : ℕ := 1 * ((i 0).val / 512 - 0) + 1 * ((i 1).val / 4096 - 0)
set_option backward.proofsInPublic true in
abbrev loc8Of (i : S8192x4096.Idx) : S512x4096.Idx := fun a => match a with
  | ⟨0, _⟩ => ⟨(i 0).val % 512, Nat.mod_lt _ (by decide)⟩
  | ⟨1, _⟩ => ⟨(i 1).val % 4096, Nat.mod_lt _ (by decide)⟩
abbrev pt8Of (i : S8192x4096.Idx) : ℕ := run8Of i

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v3_1) := fun i =>
  if h : pt8Of i < cfg0.N then
    (Pipeline.accAt (fun n h => stAt0 m c n h junk0) (stAt0 m c) 0 (pt8Of i) (by omega)).2.1 (loc8Of i)
  else V m c (Pipeline.arrRef spec0 8) i

/-- The printed index map, decided over the grid: output window 8's block indices stay in the box, and the block number
    read off them is the point's (`t`). -/
theorem idx_facts8 : ∀ t : Fin cfg0.N, 0 ≤ win0_8.index t (0 : Fin 2) ∧ win0_8.index t (0 : Fin 2) ≤ 15
    ∧ 0 ≤ win0_8.index t (1 : Fin 2) ∧ win0_8.index t (1 : Fin 2) ≤ 0
    ∧ 1 * (win0_8.index t (0 : Fin 2) - 0) + 1 * (win0_8.index t (1 : Fin 2) - 0) = t.val :=
  (by decide +kernel : ∀ t : Fin grid0.N, _)

/-- Every block of the box is SOME flushing point's: `onto8Pt`, the point that writes back the block at place `q` of the box. -/
abbrev onto8Pt (q0 : Fin 16) (q1 : Fin 1) : Fin grid0.N :=
  ⟨1 * q0.val + 1 * q1.val, lt_of_lt_of_eq (by omega) N_0.symm⟩
/-- Every block of the codes is written back by some grid point. -/
theorem idx_onto8 : ∀ (q0 : Fin 16) (q1 : Fin 1), ∃ t : Fin cfg0.N, (cfg0.win 8).flush t = true ∧ win0_8.index t = ![q0.val + 0, q1.val + 0] :=
  fun q0 q1 => ⟨onto8Pt q0 q1, (by decide +kernel : ∀ (q0 : Fin 16) (q1 : Fin 1), win0_8.flush (onto8Pt q0 q1) = true ∧ win0_8.index (onto8Pt q0 q1) = ![q0.val + 0, q1.val + 0]) q0 q1⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  obtain ⟨e0, e1, e2⟩ := idx_facts8 t
  funext y
  have hy0 : (y 0).val < 512 := (y 0).isLt
  have hy1 : (y 1).val < 4096 := (y 1).isLt
  have hb0 : (((cfg0.win 8).blk t).view.emb y 0).val = win0_8.index t (0 : Fin 2) * 512 + 1 * (y 0).val := rfl
  have hb1 : (((cfg0.win 8).blk t).view.emb y 1).val = win0_8.index t (1 : Fin 2) * 4096 + 1 * (y 1).val := rfl
  have hr : run8Of (((cfg0.win 8).blk t).view.emb y) = t.val := by
    show 1 * ((((cfg0.win 8).blk t).view.emb y 0).val / 512 - 0) + 1 * ((((cfg0.win 8).blk t).view.emb y 1).val / 4096 - 0) = _
    rw [hb0, hb1]
    rw [show (win0_8.index t (0 : Fin 2) * 512 + 1 * (y 0).val) / 512 = win0_8.index t (0 : Fin 2) from by omega]; rw [show (win0_8.index t (1 : Fin 2) * 4096 + 1 * (y 1).val) / 4096 = win0_8.index t (1 : Fin 2) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 512 = (y 0).val; rw [hb0]; omega
    | ⟨1, _⟩ => show (((cfg0.win 8).blk t).view.emb y 1).val % 4096 = (y 1).val; rw [hb1]; omega
  have hp : pt8Of (((cfg0.win 8).blk t).view.emb y) = t.val := by
    exact hr
  show (Pipeline.accAt (fun n h => stAt0 m c n h junk0) (stAt0 m c) 0 t.val _).2.1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S8192x4096.Idx) :
    i ∈ ((cfg0.win 8).blk t).view.set ↔ ∀ a : Fin 2, win0_8.index t a * S512x4096.size a ≤ (i a).val ∧ (i a).val < win0_8.index t a * S512x4096.size a + S512x4096.size a := by
  show i ∈ ((View.whole main_v3_1).slice (win0_8.rect t)).set ↔ _
  rw [View.set_slice_whole, Rect.mem_set_unit]
  exact Iff.rfl

/-- THE COVERED INDICES: in some flushing point's block iff inside the box those blocks fill. -/
theorem covered_iff8 (i : S8192x4096.Idx) :
    (∃ t : Fin cfg0.N, (cfg0.win 8).flush t = true ∧ i ∈ ((cfg0.win 8).blk t).view.set) ↔ 0 ≤ (i 0).val ∧ (i 0).val < 8192 ∧ 0 ≤ (i 1).val ∧ (i 1).val < 4096 := by
  constructor
  · rintro ⟨t, -, hi⟩
    rw [mem_blk8] at hi
    have b0 : win0_8.index t (0 : Fin 2) * 512 ≤ (i 0).val ∧ (i 0).val < win0_8.index t (0 : Fin 2) * 512 + 512 := hi 0
    have b1 : win0_8.index t (1 : Fin 2) * 4096 ≤ (i 1).val ∧ (i 1).val < win0_8.index t (1 : Fin 2) * 4096 + 4096 := hi 1
    obtain ⟨e0, e1, e2⟩ := idx_facts8 t
    omega
  · intro h
    have hi0 : (i 0).val < 8192 := (i 0).isLt
    have hi1 : (i 1).val < 4096 := (i 1).isLt
    obtain ⟨t, hft, ht⟩ := idx_onto8 ⟨(i 0).val / 512 - 0, by omega⟩ ⟨(i 1).val / 4096 - 0, by omega⟩
    have q0 : win0_8.index t (0 : Fin 2) = (i 0).val / 512 - 0 + 0 := congrFun ht 0
    have q1 : win0_8.index t (1 : Fin 2) = (i 1).val / 4096 - 0 + 0 := congrFun ht 1
    refine ⟨t, hft, ?_⟩
    rw [mem_blk8]
    intro a
    match a with
    | ⟨0, _⟩ => show win0_8.index t (0 : Fin 2) * 512 ≤ (i 0).val ∧ (i 0).val < win0_8.index t (0 : Fin 2) * 512 + 512; omega
    | ⟨1, _⟩ => show win0_8.index t (1 : Fin 2) * 4096 ≤ (i 1).val ∧ (i 1).val < win0_8.index t (1 : Fin 2) * 4096 + 4096; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 8192 := (i 0).isLt; have h1 : (i 1).val < 4096 := (i 1).isLt; omega))

/-! ## Output window 9 -/

/-- The block of the array that holds index `i`, numbered in the order the points write the blocks back (one per point),
    `i`'s place in it, and the point that writes it back. -/
abbrev run9Of (i : S8192x1.Idx) : ℕ := 1 * ((i 0).val / 512 - 0) + 1 * ((i 1).val / 1 - 0)
set_option backward.proofsInPublic true in
abbrev loc9Of (i : S8192x1.Idx) : S512x1.Idx := fun a => match a with
  | ⟨0, _⟩ => ⟨(i 0).val % 512, Nat.mod_lt _ (by decide)⟩
  | ⟨1, _⟩ => ⟨(i 1).val % 1, Nat.mod_lt _ (by decide)⟩
abbrev pt9Of (i : S8192x1.Idx) : ℕ := run9Of i

/-- WHAT THE ARRAY ENDS HOLDING at index `i` inside the box the flushing blocks fill: output 9's component of the carried
    state's fold at the point that writes `i`'s block back, at `i`'s place in the block. `G9` states the array's contents
    only inside the box. -/
def G9 (c : Dev nD) : Buf (Elt F) ((c : Thread nD τ).loc main_v3_2) := fun i =>
  if h : pt9Of i < cfg0.N then
    (Pipeline.accAt (fun n h => stAt0 m c n h junk0) (stAt0 m c) 0 (pt9Of i) (by omega)).2.2.1 (loc9Of i)
  else V m c (Pipeline.arrRef spec0 9) i

/-- The printed index map, decided over the grid: output window 9's block indices stay in the box, and the block number
    read off them is the point's (`t`). -/
theorem idx_facts9 : ∀ t : Fin cfg0.N, 0 ≤ win0_9.index t (0 : Fin 2) ∧ win0_9.index t (0 : Fin 2) ≤ 15
    ∧ 0 ≤ win0_9.index t (1 : Fin 2) ∧ win0_9.index t (1 : Fin 2) ≤ 0
    ∧ 1 * (win0_9.index t (0 : Fin 2) - 0) + 1 * (win0_9.index t (1 : Fin 2) - 0) = t.val :=
  (by decide +kernel : ∀ t : Fin grid0.N, _)

/-- Every block of the box is SOME flushing point's: `onto9Pt`, the point that writes back the block at place `q` of the box. -/
abbrev onto9Pt (q0 : Fin 16) (q1 : Fin 1) : Fin grid0.N :=
  ⟨1 * q0.val + 1 * q1.val, lt_of_lt_of_eq (by omega) N_0.symm⟩
/-- Every block of the scales is written back by some grid point. -/
theorem idx_onto9 : ∀ (q0 : Fin 16) (q1 : Fin 1), ∃ t : Fin cfg0.N, (cfg0.win 9).flush t = true ∧ win0_9.index t = ![q0.val + 0, q1.val + 0] :=
  fun q0 q1 => ⟨onto9Pt q0 q1, (by decide +kernel : ∀ (q0 : Fin 16) (q1 : Fin 1), win0_9.flush (onto9Pt q0 q1) = true ∧ win0_9.index (onto9Pt q0 q1) = ![q0.val + 0, q1.val + 0]) q0 q1⟩

/-- WHAT A FLUSHING POINT `t` WRITES BACK is block `t` of `G9`: output 9's component of the fold up to `t`. -/
theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9, outsAt0_sweep]
  obtain ⟨e0, e1, e2⟩ := idx_facts9 t
  funext y
  have hy0 : (y 0).val < 512 := (y 0).isLt
  have hy1 : (y 1).val < 1 := (y 1).isLt
  have hb0 : (((cfg0.win 9).blk t).view.emb y 0).val = win0_9.index t (0 : Fin 2) * 512 + 1 * (y 0).val := rfl
  have hb1 : (((cfg0.win 9).blk t).view.emb y 1).val = win0_9.index t (1 : Fin 2) * 1 + 1 * (y 1).val := rfl
  have hr : run9Of (((cfg0.win 9).blk t).view.emb y) = t.val := by
    show 1 * ((((cfg0.win 9).blk t).view.emb y 0).val / 512 - 0) + 1 * ((((cfg0.win 9).blk t).view.emb y 1).val / 1 - 0) = _
    rw [hb0, hb1]
    rw [show (win0_9.index t (0 : Fin 2) * 512 + 1 * (y 0).val) / 512 = win0_9.index t (0 : Fin 2) from by omega]; rw [show (win0_9.index t (1 : Fin 2) * 1 + 1 * (y 1).val) / 1 = win0_9.index t (1 : Fin 2) from by omega]
    omega
  have hl : loc9Of (((cfg0.win 9).blk t).view.emb y) = (cfg0.win 9).xinj (grid0.coords t) y := by
    funext a; apply Fin.ext
    match a with
    | ⟨0, _⟩ => show (((cfg0.win 9).blk t).view.emb y 0).val % 512 = (y 0).val; rw [hb0]; omega
    | ⟨1, _⟩ => show (((cfg0.win 9).blk t).view.emb y 1).val % 1 = (y 1).val; rw [hb1]; omega
  have hp : pt9Of (((cfg0.win 9).blk t).view.emb y) = t.val := by
    exact hr
  show (Pipeline.accAt (fun n h => stAt0 m c n h junk0) (stAt0 m c) 0 t.val _).2.2.1 ((cfg0.win 9).xinj (grid0.coords t) y) = G9 m c (((cfg0.win 9).blk t).view.emb y)
  unfold G9
  rw [dif_pos (by rw [hp]; exact t.isLt), hl, fold0_congr m c _ _ _ _ hp.symm]

/-- An index of the array is in point `t`'s block iff each coordinate is in the block's range on its axis. -/
theorem mem_blk9 (t : Fin cfg0.N) (i : S8192x1.Idx) :
    i ∈ ((cfg0.win 9).blk t).view.set ↔ ∀ a : Fin 2, win0_9.index t a * S512x1.size a ≤ (i a).val ∧ (i a).val < win0_9.index t a * S512x1.size a + S512x1.size a := by
  show i ∈ ((View.whole main_v3_2).slice (win0_9.rect t)).set ↔ _
  rw [View.set_slice_whole, Rect.mem_set_unit]
  exact Iff.rfl

/-- THE COVERED INDICES: in some flushing point's block iff inside the box those blocks fill. -/
theorem covered_iff9 (i : S8192x1.Idx) :
    (∃ t : Fin cfg0.N, (cfg0.win 9).flush t = true ∧ i ∈ ((cfg0.win 9).blk t).view.set) ↔ 0 ≤ (i 0).val ∧ (i 0).val < 8192 ∧ 0 ≤ (i 1).val ∧ (i 1).val < 1 := by
  constructor
  · rintro ⟨t, -, hi⟩
    rw [mem_blk9] at hi
    have b0 : win0_9.index t (0 : Fin 2) * 512 ≤ (i 0).val ∧ (i 0).val < win0_9.index t (0 : Fin 2) * 512 + 512 := hi 0
    have b1 : win0_9.index t (1 : Fin 2) * 1 ≤ (i 1).val ∧ (i 1).val < win0_9.index t (1 : Fin 2) * 1 + 1 := hi 1
    obtain ⟨e0, e1, e2⟩ := idx_facts9 t
    omega
  · intro h
    have hi0 : (i 0).val < 8192 := (i 0).isLt
    have hi1 : (i 1).val < 1 := (i 1).isLt
    obtain ⟨t, hft, ht⟩ := idx_onto9 ⟨(i 0).val / 512 - 0, by omega⟩ ⟨(i 1).val / 1 - 0, by omega⟩
    have q0 : win0_9.index t (0 : Fin 2) = (i 0).val / 512 - 0 + 0 := congrFun ht 0
    have q1 : win0_9.index t (1 : Fin 2) = (i 1).val / 1 - 0 + 0 := congrFun ht 1
    refine ⟨t, hft, ?_⟩
    rw [mem_blk9]
    intro a
    match a with
    | ⟨0, _⟩ => show win0_9.index t (0 : Fin 2) * 512 ≤ (i 0).val ∧ (i 0).val < win0_9.index t (0 : Fin 2) * 512 + 512; omega
    | ⟨1, _⟩ => show win0_9.index t (1 : Fin 2) * 1 ≤ (i 1).val ∧ (i 1).val < win0_9.index t (1 : Fin 2) * 1 + 1; omega

/-- THE ARRAY after the run: `G9` (the flushing blocks tile it). -/
theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 8192 := (i 0).isLt; have h1 : (i 1).val < 1 := (i 1).isLt; omega))

/-! ## The run, read -/

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v3_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v3_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v3_2) = (dats m 0 c).arrAt 9 cfg0.N :=
  (h c).1 9

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 5 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 5).trans (((dats m 0 c).arrAt_in 5 rfl _).trans ((A_eq m c 5).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v3_0) = G7 m c
      ∧ r.2.mem ((c : Thread nD τ).loc main_v3_1) = G8 m c
      ∧ r.2.mem ((c : Thread nD τ).loc main_v3_2) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post7 m r h c).trans (final7 m c),
      (post8 m r h c).trans (final8 m c),
      (post9 m r h c).trans (final9 m c),
      kept_main_arg0 m r h c,
      kept_main_arg1 m r h c,
      kept_main_arg2 m r h c,
      kept_main_arg3 m r h c⟩)
    (run_main m ρ)

end Cert.KernelIdeal.Value

end
-- ==== Proof.Windows.lean ====
/-
  WHAT THE KERNEL'S WINDOWS SHOW. At grid point `n` the three activation windows show the blocks of 256 rows 0, 2n+1 and
  min(2n+2, 31); the other windows show their arrays whole: the signs, the sign table, the weights, the column scales.
-/
module

public import proofs.«01_k».proof.Proof.Rows
public import proofs.«01_k».proof.Proof.Table
public import proofs.«01_k».proof.Proof.KernelRun
public import Idealize.ShloMosaic.Lib.ValueLayout
public import Idealize.ShloMosaic.Lib.Claim

@[expose] public section

noncomputable section

namespace Cert.Quarot

open Idealize.ShloMosaic Idealize.ShloMosaic.TcCoe Cert.KernelIdeal Cert.KernelIdeal.Gen

variable (m : (ℓ : Loc nD τ sig) → Buf (Elt Ideal) ℓ) (c : Dev nD)

/-- The activations. -/
def argX : Vec Ideal S1x8192x4096 .bf16 := m ((c : Thread nD τ).loc main_arg0)
/-- The fp8 weights. -/
def argW : Vec Ideal S4096x3584 .fp8e4m3 := m ((c : Thread nD τ).loc main_arg1)
/-- The column scales. -/
def argWs : Vec Ideal S3584 .f32 := m ((c : Thread nD τ).loc main_arg2)
/-- The signs. -/
def argS : Vec Ideal S4096 .f32 := m ((c : Thread nD τ).loc main_arg3)

/-- Row `r` of the activations, times the signs. -/
def zArg (r : Fin 8192) : Fin 4096 → EReal := fun j => argX m c (ix3 0 r j) * argS m c (ix1 j)

/-! ## The arrays the region finds -/

/-- The activations as a matrix are the argument. -/
theorem V_v0 (r : Fin 8192) (j : Fin 4096) : (V m c main_v0 : Vec Ideal S8192x4096 .bf16) (ix2 r j) = argX m c (ix3 0 r j) := by
  entry_read
  exact ValueIdx.shapeCast_1ab_ab_apply _ _ _ _

/-- The signs as a matrix of one row are the argument. -/
theorem V_v1 (j : Fin 4096) : (V m c main_v1 : Vec Ideal S1x4096 .f32) (ix2 0 j) = argS m c (ix1 j) := by
  entry_read
  exact ValueIdx.shapeCast_a_1a_apply _ _ _ _

/-- The column scales as a matrix of one row are the argument. -/
theorem V_v2 (j : Fin 3584) : (V m c main_v2 : Vec Ideal S1x3584 .f32) (ix2 0 j) = argWs m c (ix1 j) := by
  entry_read
  exact ValueIdx.shapeCast_a_1a_apply _ _ _ _

/-- The literal table holds the entries of the block Hadamard matrix. -/
theorem V_cst (k l : Fin 256) : (V m c main_cst : Vec Ideal S256x256 .bf16) (ix2 k l) = had2 k.val l.val := by
  entry_read
  exact table_apply k l

/-! ## The blocks -/

/-- Point `t` reads block `2 t + 1` through the second window. -/
theorem index1 : ∀ t : Fin cfg0.N, win0_1.index t (0 : Fin 2) = 2 * t.val + 1 ∧ win0_1.index t (1 : Fin 2) = 0 :=
  (by decide +kernel : ∀ t : Fin grid0.N, _)

/-- Point `t` reads block `2 t + 2`, or the last block, through the third window. -/
theorem index2 : ∀ t : Fin cfg0.N, win0_2.index t (0 : Fin 2) = min (2 * t.val + 2) 31 ∧ win0_2.index t (1 : Fin 2) = 0 :=
  (by decide +kernel : ∀ t : Fin grid0.N, _)

/-- The first window holds the first 256 rows. -/
theorem block0 (t : Fin cfg0.N) (r : Fin 256) (j : Fin 4096) :
    (iblk m c 0 t : Vec Ideal S256x4096 .bf16) (ix2 r j) = argX m c (ix3 0 ⟨r.val, by omega⟩ j) := by
  unfold iblk
  rw [View.read_apply, cast_eq, ← V_v0]
  refine congrArg (V m c main_v0) (funext fun a => Fin.ext ?_)
  match a with
  | ⟨0, _⟩ => show 0 * 256 + 1 * r.val = r.val; omega
  | ⟨1, _⟩ => show 0 * 4096 + 1 * j.val = j.val; omega

/-- The second window holds the rows of block `2 t + 1`. -/
theorem block1 (t : Fin cfg0.N) (r : Fin 256) (j : Fin 4096) (b : ℕ) (hb : 2 * t.val + 1 = b) (hr : b * 256 + r.val < 8192) :
    (iblk m c 1 t : Vec Ideal S256x4096 .bf16) (ix2 r j) = argX m c (ix3 0 ⟨b * 256 + r.val, hr⟩ j) := by
  obtain ⟨e0, e1⟩ := index1 t
  unfold iblk
  rw [View.read_apply, cast_eq, ← V_v0]
  refine congrArg (V m c main_v0) (funext fun a => Fin.ext ?_)
  match a with
  | ⟨0, _⟩ => show win0_1.index t (0 : Fin 2) * 256 + 1 * r.val = b * 256 + r.val; rw [e0, hb, Nat.one_mul]
  | ⟨1, _⟩ => show win0_1.index t (1 : Fin 2) * 4096 + 1 * j.val = j.val; rw [e1, Nat.zero_mul, Nat.zero_add, Nat.one_mul]

/-- The third window holds the rows of block `2 t + 2`, or of the last block. -/
theorem block2 (t : Fin cfg0.N) (r : Fin 256) (j : Fin 4096) (b : ℕ) (hb : min (2 * t.val + 2) 31 = b) (hr : b * 256 + r.val < 8192) :
    (iblk m c 2 t : Vec Ideal S256x4096 .bf16) (ix2 r j) = argX m c (ix3 0 ⟨b * 256 + r.val, hr⟩ j) := by
  obtain ⟨e0, e1⟩ := index2 t
  unfold iblk
  rw [View.read_apply, cast_eq, ← V_v0]
  refine congrArg (V m c main_v0) (funext fun a => Fin.ext ?_)
  match a with
  | ⟨0, _⟩ => show win0_2.index t (0 : Fin 2) * 256 + 1 * r.val = b * 256 + r.val; rw [e0, hb, Nat.one_mul]
  | ⟨1, _⟩ => show win0_2.index t (1 : Fin 2) * 4096 + 1 * j.val = j.val; rw [e1, Nat.zero_mul, Nat.zero_add, Nat.one_mul]

/-- The fourth window holds the signs. -/
theorem block3 (t : Fin cfg0.N) (j : Fin 4096) : (iblk m c 3 t : Vec Ideal S1x4096 .f32) (ix2 0 j) = argS m c (ix1 j) := by
  unfold iblk
  rw [View.read_apply, cast_eq, ← V_v1]
  refine congrArg (V m c main_v1) (funext fun a => Fin.ext ?_)
  match a with
  | ⟨0, _⟩ => rfl
  | ⟨1, _⟩ => show 0 * 4096 + 1 * j.val = j.val; omega

/-- The fifth window holds the table. -/
theorem block4 (t : Fin cfg0.N) : IsTable (iblk m c 4 t : Vec Ideal S256x256 .bf16) := by
  intro k l
  unfold iblk
  rw [View.read_apply, cast_eq, ← V_cst m c]
  refine congrArg (V m c main_cst) (funext fun a => Fin.ext ?_)
  match a with
  | ⟨0, _⟩ => show 0 * 256 + 1 * k.val = k.val; omega
  | ⟨1, _⟩ => show 0 * 256 + 1 * l.val = l.val; omega

/-- The sixth window holds the weight codes. -/
theorem block5 (t : Fin cfg0.N) (k : Fin 4096) (n : Fin 3584) :
    (iblk m c 5 t : Vec Ideal S4096x3584 .fp8e4m3) (ix2 k n) = argW m c (ix2 k n) := by
  unfold iblk argW
  rw [View.read_apply, cast_eq, ← V_main_arg1 m c]
  refine congrArg (V m c main_arg1) (funext fun a => Fin.ext ?_)
  match a with
  | ⟨0, _⟩ => show 0 * 4096 + 1 * k.val = k.val; omega
  | ⟨1, _⟩ => show 0 * 3584 + 1 * n.val = n.val; omega

/-- The seventh window holds the column scales. -/
theorem block6 (t : Fin cfg0.N) (n : Fin 3584) : (iblk m c 6 t : Vec Ideal S1x3584 .f32) (ix2 0 n) = argWs m c (ix1 n) := by
  unfold iblk
  rw [View.read_apply, cast_eq, ← V_v2]
  refine congrArg (V m c main_v2) (funext fun a => Fin.ext ?_)
  match a with
  | ⟨0, _⟩ => rfl
  | ⟨1, _⟩ => show 0 * 3584 + 1 * n.val = n.val; omega

/-! ## Rows of the blocks, times the signs -/

/-- The signed rows of the first window are those of the arguments. -/
theorem zrow0 (t : Fin cfg0.N) (r : Fin 256) : zrow (iblk m c 0 t) (iblk m c 3 t) r = zArg m c ⟨r.val, by omega⟩ := by
  funext j
  unfold zrow zArg
  exact congrArg₂ (· * ·) (block0 m c t r j) (block3 m c t j)

/-- The signed rows of the second window are those of the arguments. -/
theorem zrow1 (t : Fin cfg0.N) (r : Fin 256) (b : ℕ) (hb : 2 * t.val + 1 = b) (hr : b * 256 + r.val < 8192) :
    zrow (iblk m c 1 t) (iblk m c 3 t) r = zArg m c ⟨b * 256 + r.val, hr⟩ := by
  funext j
  unfold zrow zArg
  exact congrArg₂ (· * ·) (block1 m c t r j b hb hr) (block3 m c t j)

/-- The signed rows of the third window are those of the arguments. -/
theorem zrow2 (t : Fin cfg0.N) (r : Fin 256) (b : ℕ) (hb : min (2 * t.val + 2) 31 = b) (hr : b * 256 + r.val < 8192) :
    zrow (iblk m c 2 t) (iblk m c 3 t) r = zArg m c ⟨b * 256 + r.val, hr⟩ := by
  funext j
  unfold zrow zArg
  exact congrArg₂ (· * ·) (block2 m c t r j b hb hr) (block3 m c t j)

end Cert.Quarot

end
-- ==== Proof.Bound.lean ====
/-
  THE PRECONDITION AS A BOUND ON EACH ROW: where the printed comparison holds everywhere, every entry of the activations
  times its sign is at most the largest finite f32 number in magnitude, which is what the two sides' results ask for.
-/
module

public import proofs.«01_k».proof.Defs
public import proofs.«01_k».proof.Proof.Windows
public import Idealize.ShloMosaic.Lib.Pointwise

@[expose] public section

noncomputable section

namespace Cert.Pre_no_overflow.Gen

open Idealize.ShloMosaic

/-- The shape relations the printed precondition takes. -/
theorem facts : Facts where
  bitsLt_bf16_f32 := by decide
  bcast_S4096_S1x1x4096_2 := by decide
  bcast_S1x1x4096_S1x8192x4096_0_1_2 := by decide
  bcast_S_S1x8192x4096 := by decide

/-- The printed comparison at an index. -/
theorem fn_apply [Facts] (x : FVec Ideal S1x8192x4096 .bf16) (w : FVec Ideal S4096x3584 .fp8e4m3) (ws : FVec Ideal S3584 .f32) (s : FVec Ideal S4096 .f32)
    (r : Fin 8192) (j : Fin 4096) (h : fn (F := Ideal) x w ws s = fun _ => 1#1) :
    max (x (ix3 0 r j) * s (ix1 j)) (-(x (ix3 0 r j) * s (ix1 j))) ≤ Ideal.ofBits .f32 0x7F7FFFFF#32 := by
  have h' := congrFun h (ix3 0 r j)
  pointwise [fn] at h'
  by_contra hn
  have hd : decide (FloatOps.absf (F := Ideal) (φ := .f32) (x (ix3 0 r j) * s (ix1 j)) ≤ Ideal.ofBits .f32 0x7F7FFFFF#32) = false := decide_eq_false hn
  rw [hd] at h'
  exact absurd h' (by decide)

end Cert.Pre_no_overflow.Gen

namespace Cert.Quarot

open Idealize.ShloMosaic Idealize.ShloMosaic.TcCoe Cert.KernelIdeal

/-- Under the precondition every row is within the bound. -/
theorem bounded_of_pre [Cert.Pre_no_overflow.Facts] (m : (ℓ : Loc nD τ sig) → Buf (Elt Ideal) ℓ) (h : Cert.Pre_KernelIdeal_no_overflow m) (c : Dev nD)
    (r : Fin 8192) : Bounded (zArg m c r) := fun j => Cert.Pre_no_overflow.Gen.fn_apply _ _ _ _ r j (h c)

end Cert.Quarot

end
-- ==== Proof.Tiles.lean ====
/-
  ONE POINT'S WRITES: the outputs' pieces, and the steps of the kernel's body as they were cut up.

  A point writes 14 tiles of y, 2 halves of codes and 2 halves of scale; each list of pieces, written over anything, leaves the block
  stated here.  The payload lemmas say that the body's steps, wherever they were cut, are the one rotate and the one quantiser.
-/
module

public import proofs.«01_k».proof.Proof.Rotate

@[expose] public section

noncomputable section

namespace Cert.Quarot

open Idealize.ShloMosaic Cert.KernelIdeal Cert.KernelIdeal.Gen

variable {e : EltTy}

/-- Fourteen tiles, seven to each half of the rows, as one block. -/
def mosaic (t b : Fin 7 → Vec Ideal S256x512 e) : Vec Ideal S512x3584 e := fun j =>
  have h1 : (j 1).val < 3584 := (j 1).isLt
  have h0 : (j 0).val < 512 := (j 0).isLt
  if h : (j 0).val < 256 then t ⟨(j 1).val / 512, by omega⟩ (ix2 ⟨(j 0).val, h⟩ ⟨(j 1).val % 512, by omega⟩)
  else b ⟨(j 1).val / 512, by omega⟩ (ix2 ⟨(j 0).val - 256, by omega⟩ ⟨(j 1).val % 512, by omega⟩)

/-- Two halves of codes as one block. -/
def stackC (t b : Vec Ideal S256x4096 e) : Vec Ideal S512x4096 e := fun j =>
  have h0 : (j 0).val < 512 := (j 0).isLt
  if h : (j 0).val < 256 then t (ix2 ⟨(j 0).val, h⟩ (j 1)) else b (ix2 ⟨(j 0).val - 256, by omega⟩ (j 1))

/-- Two halves of scales as one block. -/
def stackS (t b : Vec Ideal S256x1 e) : Vec Ideal S512x1 e := fun j =>
  have h0 : (j 0).val < 512 := (j 0).isLt
  if h : (j 0).val < 256 then t (ix2 ⟨(j 0).val, h⟩ (j 1)) else b (ix2 ⟨(j 0).val - 256, by omega⟩ (j 1))

/-- The fourteen tiles as pieces, the last one first. -/
def tiles (t b : Fin 7 → Vec Ideal S256x512 e) : List (View.Piece (Elt Ideal) S512x3584 e) :=
  [⟨Rect.unit ![256, 3072] S256x512.size inb_S512x3584_S256x512_256_3072, b 6⟩,
   ⟨Rect.unit ![256, 2560] S256x512.size inb_S512x3584_S256x512_256_2560, b 5⟩,
   ⟨Rect.unit ![256, 2048] S256x512.size inb_S512x3584_S256x512_256_2048, b 4⟩,
   ⟨Rect.unit ![256, 1536] S256x512.size inb_S512x3584_S256x512_256_1536, b 3⟩,
   ⟨Rect.unit ![256, 1024] S256x512.size inb_S512x3584_S256x512_256_1024, b 2⟩,
   ⟨Rect.unit ![256, 512] S256x512.size inb_S512x3584_S256x512_256_512, b 1⟩,
   ⟨Rect.unit ![256, 0] S256x512.size inb_S512x3584_S256x512_256_0, b 0⟩,
   ⟨Rect.unit ![0, 3072] S256x512.size inb_S512x3584_S256x512_0_3072, t 6⟩,
   ⟨Rect.unit ![0, 2560] S256x512.size inb_S512x3584_S256x512_0_2560, t 5⟩,
   ⟨Rect.unit ![0, 2048] S256x512.size inb_S512x3584_S256x512_0_2048, t 4⟩,
   ⟨Rect.unit ![0, 1536] S256x512.size inb_S512x3584_S256x512_0_1536, t 3⟩,
   ⟨Rect.unit ![0, 1024] S256x512.size inb_S512x3584_S256x512_0_1024, t 2⟩,
   ⟨Rect.unit ![0, 512] S256x512.size inb_S512x3584_S256x512_0_512, t 1⟩,
   ⟨Rect.unit ![0, 0] S256x512.size inb_S512x3584_S256x512_0_0, t 0⟩]

/-- The upper tile `k` is a part of the mosaic. -/
theorem piece_top (t b : Fin 7 → Vec Ideal S256x512 e) (k : Fin 7) (o : ℕ) (ho : o = 512 * k.val)
    (inb : ∀ a, (![0, o] : Fin 2 → ℕ) a + S256x512.size a ≤ S512x3584.size a) (x : S256x512.Idx) :
    t k x = mosaic t b ((Rect.unit (s := S512x3584) ![0, o] S256x512.size inb).emb x) := by
  subst ho
  have h1 : (x 1).val < 512 := (x 1).isLt
  have h0 : (x 0).val < 256 := (x 0).isLt
  have e0 : ((Rect.unit (s := S512x3584) ![0, 512 * k.val] S256x512.size inb).emb x 0).val = 0 + (x 0).val := by
    show 0 + 1 * (x 0).val = _; omega
  have e1 : ((Rect.unit (s := S512x3584) ![0, 512 * k.val] S256x512.size inb).emb x 1).val = 512 * k.val + (x 1).val := by
    show 512 * k.val + 1 * (x 1).val = _; omega
  generalize (Rect.unit (s := S512x3584) ![0, 512 * k.val] S256x512.size inb).emb x = y at e0 e1
  unfold mosaic
  rw [dif_pos (by rw [e0]; omega)]
  have ek : (⟨(y 1).val / 512, by rw [e1]; omega⟩ : Fin 7) = k := Fin.ext (by show _ / 512 = _; rw [e1]; omega)
  rw [ek]
  refine congrArg (t k) (funext fun a => Fin.ext ?_)
  match a with
  | ⟨0, _⟩ => show (x 0).val = (y 0).val; omega
  | ⟨1, _⟩ => show (x 1).val = (y 1).val % 512; omega

/-- The lower tile `k` is a part of the mosaic. -/
theorem piece_bot (t b : Fin 7 → Vec Ideal S256x512 e) (k : Fin 7) (o : ℕ) (ho : o = 512 * k.val)
    (inb : ∀ a, (![256, o] : Fin 2 → ℕ) a + S256x512.size a ≤ S512x3584.size a) (x : S256x512.Idx) :
    b k x = mosaic t b ((Rect.unit (s := S512x3584) ![256, o] S256x512.size inb).emb x) := by
  subst ho
  have h1 : (x 1).val < 512 := (x 1).isLt
  have h0 : (x 0).val < 256 := (x 0).isLt
  have e0 : ((Rect.unit (s := S512x3584) ![256, 512 * k.val] S256x512.size inb).emb x 0).val = 256 + (x 0).val := by
    show 256 + 1 * (x 0).val = _; omega
  have e1 : ((Rect.unit (s := S512x3584) ![256, 512 * k.val] S256x512.size inb).emb x 1).val = 512 * k.val + (x 1).val := by
    show 512 * k.val + 1 * (x 1).val = _; omega
  generalize (Rect.unit (s := S512x3584) ![256, 512 * k.val] S256x512.size inb).emb x = y at e0 e1
  unfold mosaic
  rw [dif_neg (by rw [e0]; omega)]
  have ek : (⟨(y 1).val / 512, by rw [e1]; omega⟩ : Fin 7) = k := Fin.ext (by show _ / 512 = _; rw [e1]; omega)
  rw [ek]
  refine congrArg (b k) (funext fun a => Fin.ext ?_)
  match a with
  | ⟨0, _⟩ => show (x 0).val = (y 0).val - 256; omega
  | ⟨1, _⟩ => show (x 1).val = (y 1).val % 512; omega

/-- Every tile is a part of the mosaic. -/
theorem tiles_mosaic (t b : Fin 7 → Vec Ideal S256x512 e) : ∀ p ∈ tiles t b, ∀ x, p.2 x = mosaic t b (p.1.emb x) := by
  intro p hp
  simp only [tiles, List.mem_cons, List.not_mem_nil, or_false] at hp
  rcases hp with rfl | rfl | rfl | rfl | rfl | rfl | rfl | rfl | rfl | rfl | rfl | rfl | rfl | rfl
  · exact piece_bot t b 6 3072 rfl inb_S512x3584_S256x512_256_3072
  · exact piece_bot t b 5 2560 rfl inb_S512x3584_S256x512_256_2560
  · exact piece_bot t b 4 2048 rfl inb_S512x3584_S256x512_256_2048
  · exact piece_bot t b 3 1536 rfl inb_S512x3584_S256x512_256_1536
  · exact piece_bot t b 2 1024 rfl inb_S512x3584_S256x512_256_1024
  · exact piece_bot t b 1 512 rfl inb_S512x3584_S256x512_256_512
  · exact piece_bot t b 0 0 rfl inb_S512x3584_S256x512_256_0
  · exact piece_top t b 6 3072 rfl inb_S512x3584_S256x512_0_3072
  · exact piece_top t b 5 2560 rfl inb_S512x3584_S256x512_0_2560
  · exact piece_top t b 4 2048 rfl inb_S512x3584_S256x512_0_2048
  · exact piece_top t b 3 1536 rfl inb_S512x3584_S256x512_0_1536
  · exact piece_top t b 2 1024 rfl inb_S512x3584_S256x512_0_1024
  · exact piece_top t b 1 512 rfl inb_S512x3584_S256x512_0_512
  · exact piece_top t b 0 0 rfl inb_S512x3584_S256x512_0_0

/-- Writing the fourteen tiles over anything leaves the block made of them. -/
theorem read_tiles {κ : Kind} {sp : Space} (v : View sig κ sp S512x3584 e) (f : v.ty.Contents (Elt Ideal)) (t b : Fin 7 → Vec Ideal S256x512 e) :
    v.read (Elt Ideal) (v.writes (Elt Ideal) f (tiles t b)) = mosaic t b :=
  funext fun y => View.read_writes_apply_of_pieces v _ _ _ (tiles_mosaic t b) y (View.cover_of_tiledL (tiles t b) S256x512.size (by sl_kernel_rfl) y)

/-- Two halves as pieces. -/
def twoC (t b : Vec Ideal S256x4096 e) : List (View.Piece (Elt Ideal) S512x4096 e) :=
  [⟨Rect.unit ![256, 0] S256x4096.size inb_S512x4096_S256x4096_256_0, b⟩, ⟨Rect.unit ![0, 0] S256x4096.size inb_S512x4096_S256x4096_0_0, t⟩]

/-- Both halves of the codes are parts of the stack. -/
theorem twoC_stack (t b : Vec Ideal S256x4096 e) : ∀ p ∈ twoC t b, ∀ x, p.2 x = stackC t b (p.1.emb x) := by
  intro p hp
  simp only [twoC, List.mem_cons, List.not_mem_nil, or_false] at hp
  rcases hp with rfl | rfl
  · intro x
    have h0 : (x 0).val < 256 := (x 0).isLt
    have e0 : ((Rect.unit (s := S512x4096) ![256, 0] S256x4096.size inb_S512x4096_S256x4096_256_0).emb x 0).val = 256 + (x 0).val := by
      show 256 + 1 * (x 0).val = _; omega
    have e1 : ((Rect.unit (s := S512x4096) ![256, 0] S256x4096.size inb_S512x4096_S256x4096_256_0).emb x 1).val = (x 1).val := by
      show 0 + 1 * (x 1).val = _; omega
    show b x = stackC t b ((Rect.unit (s := S512x4096) ![256, 0] S256x4096.size inb_S512x4096_S256x4096_256_0).emb x)
    generalize (Rect.unit (s := S512x4096) ![256, 0] S256x4096.size inb_S512x4096_S256x4096_256_0).emb x = y at e0 e1
    unfold stackC
    rw [dif_neg (by rw [e0]; omega)]
    refine congrArg b (funext fun a => Fin.ext ?_)
    match a with
    | ⟨0, _⟩ => show (x 0).val = (y 0).val - 256; omega
    | ⟨1, _⟩ => exact e1.symm
  · intro x
    have h0 : (x 0).val < 256 := (x 0).isLt
    have e0 : ((Rect.unit (s := S512x4096) ![0, 0] S256x4096.size inb_S512x4096_S256x4096_0_0).emb x 0).val = (x 0).val := by
      show 0 + 1 * (x 0).val = _; omega
    have e1 : ((Rect.unit (s := S512x4096) ![0, 0] S256x4096.size inb_S512x4096_S256x4096_0_0).emb x 1).val = (x 1).val := by
      show 0 + 1 * (x 1).val = _; omega
    show t x = stackC t b ((Rect.unit (s := S512x4096) ![0, 0] S256x4096.size inb_S512x4096_S256x4096_0_0).emb x)
    generalize (Rect.unit (s := S512x4096) ![0, 0] S256x4096.size inb_S512x4096_S256x4096_0_0).emb x = y at e0 e1
    unfold stackC
    rw [dif_pos (by rw [e0]; omega)]
    refine congrArg t (funext fun a => Fin.ext ?_)
    match a with
    | ⟨0, _⟩ => exact e0.symm
    | ⟨1, _⟩ => exact e1.symm

/-- Writing both halves over anything leaves the block made of them. -/
theorem read_twoC {κ : Kind} {sp : Space} (v : View sig κ sp S512x4096 e) (f : v.ty.Contents (Elt Ideal)) (t b : Vec Ideal S256x4096 e) :
    v.read (Elt Ideal) (v.writes (Elt Ideal) f (twoC t b)) = stackC t b :=
  funext fun y => View.read_writes_apply_of_pieces v _ _ _ (twoC_stack t b) y (View.cover_of_tiledL (twoC t b) S256x4096.size (by sl_kernel_rfl) y)

/-- Two halves as pieces. -/
def twoS (t b : Vec Ideal S256x1 e) : List (View.Piece (Elt Ideal) S512x1 e) :=
  [⟨Rect.unit ![256, 0] S256x1.size inb_S512x1_S256x1_256_0, b⟩, ⟨Rect.unit ![0, 0] S256x1.size inb_S512x1_S256x1_0_0, t⟩]

/-- Both halves of the scales are parts of the stack. -/
theorem twoS_stack (t b : Vec Ideal S256x1 e) : ∀ p ∈ twoS t b, ∀ x, p.2 x = stackS t b (p.1.emb x) := by
  intro p hp
  simp only [twoS, List.mem_cons, List.not_mem_nil, or_false] at hp
  rcases hp with rfl | rfl
  · intro x
    have h0 : (x 0).val < 256 := (x 0).isLt
    have e0 : ((Rect.unit (s := S512x1) ![256, 0] S256x1.size inb_S512x1_S256x1_256_0).emb x 0).val = 256 + (x 0).val := by
      show 256 + 1 * (x 0).val = _; omega
    have e1 : ((Rect.unit (s := S512x1) ![256, 0] S256x1.size inb_S512x1_S256x1_256_0).emb x 1).val = (x 1).val := by
      show 0 + 1 * (x 1).val = _; omega
    show b x = stackS t b ((Rect.unit (s := S512x1) ![256, 0] S256x1.size inb_S512x1_S256x1_256_0).emb x)
    generalize (Rect.unit (s := S512x1) ![256, 0] S256x1.size inb_S512x1_S256x1_256_0).emb x = y at e0 e1
    unfold stackS
    rw [dif_neg (by rw [e0]; omega)]
    refine congrArg b (funext fun a => Fin.ext ?_)
    match a with
    | ⟨0, _⟩ => show (x 0).val = (y 0).val - 256; omega
    | ⟨1, _⟩ => exact e1.symm
  · intro x
    have h0 : (x 0).val < 256 := (x 0).isLt
    have e0 : ((Rect.unit (s := S512x1) ![0, 0] S256x1.size inb_S512x1_S256x1_0_0).emb x 0).val = (x 0).val := by
      show 0 + 1 * (x 0).val = _; omega
    have e1 : ((Rect.unit (s := S512x1) ![0, 0] S256x1.size inb_S512x1_S256x1_0_0).emb x 1).val = (x 1).val := by
      show 0 + 1 * (x 1).val = _; omega
    show t x = stackS t b ((Rect.unit (s := S512x1) ![0, 0] S256x1.size inb_S512x1_S256x1_0_0).emb x)
    generalize (Rect.unit (s := S512x1) ![0, 0] S256x1.size inb_S512x1_S256x1_0_0).emb x = y at e0 e1
    unfold stackS
    rw [dif_pos (by rw [e0]; omega)]
    refine congrArg t (funext fun a => Fin.ext ?_)
    match a with
    | ⟨0, _⟩ => exact e0.symm
    | ⟨1, _⟩ => exact e1.symm

/-- Writing both halves over anything leaves the block made of them. -/
theorem read_twoS {κ : Kind} {sp : Space} (v : View sig κ sp S512x1 e) (f : v.ty.Contents (Elt Ideal)) (t b : Vec Ideal S256x1 e) :
    v.read (Elt Ideal) (v.writes (Elt Ideal) f (twoS t b)) = stackS t b :=
  funext fun y => View.read_writes_apply_of_pieces v _ _ _ (twoS_stack t b) y (View.cover_of_tiledL (twoS t b) S256x1.size (by sl_kernel_rfl) y)

/-- Writing one piece over the whole scale buffer leaves it. -/
theorem read_whole {κ : Kind} {sp : Space} (v : View sig κ sp S256x128 e) (f : v.ty.Contents (Elt Ideal)) (X : Vec Ideal S256x128 e) :
    v.read (Elt Ideal) (v.writes (Elt Ideal) f [(⟨Rect.unit ![0, 0] S256x128.size inb_S256x128_S256x128_0_0, X⟩ : View.Piece (Elt Ideal) S256x128 e)]) = X := by
  funext y
  have hG : ∀ p ∈ [(⟨Rect.unit ![0, 0] S256x128.size inb_S256x128_S256x128_0_0, X⟩ : View.Piece (Elt Ideal) S256x128 e)], ∀ x, p.2 x = X (p.1.emb x) := by
    intro p hp
    rw [List.mem_singleton] at hp
    subst hp
    intro x
    refine congrArg X (funext fun a => Fin.ext ?_)
    match a with
    | ⟨0, _⟩ => show (x 0).val = 0 + 1 * (x 0).val; omega
    | ⟨1, _⟩ => show (x 1).val = 0 + 1 * (x 1).val; omega
  exact View.read_writes_apply_of_pieces v _ X _ hG _ (View.cover_of_tiledL _ S256x128.size (by sl_kernel_rfl) _)

/-- Writing the sixteen chunks over anything leaves them side by side. -/
theorem read_cols' {κ : Kind} {sp : Space} (v : View sig κ sp S256x4096 e) (f : v.ty.Contents (Elt Ideal)) (P : Fin 16 → Vec Ideal S256x256 e) :
    v.read (Elt Ideal) (v.writes (Elt Ideal) f (cols P)) = glue P :=
  funext fun y => by
    have := read_cols v f P [] y
    rwa [List.append_nil] at this

/-- The same over earlier pieces. -/
theorem read_cols_over {κ : Kind} {sp : Space} (v : View sig κ sp S256x4096 e) (f : v.ty.Contents (Elt Ideal)) (P : Fin 16 → Vec Ideal S256x256 e)
    (L : List (View.Piece (Elt Ideal) S256x4096 e)) : v.read (Elt Ideal) (v.writes (Elt Ideal) f (cols P ++ L)) = glue P :=
  funext fun y => read_cols v f P L y

/-- The same for the scale buffer. -/
theorem read_whole_over {κ : Kind} {sp : Space} (v : View sig κ sp S256x128 e) (f : v.ty.Contents (Elt Ideal)) (X : Vec Ideal S256x128 e)
    (p : View.Piece (Elt Ideal) S256x128 e) :
    v.read (Elt Ideal) (v.writes (Elt Ideal) f [(⟨Rect.unit ![0, 0] S256x128.size inb_S256x128_S256x128_0_0, X⟩ : View.Piece (Elt Ideal) S256x128 e), p]) = X :=
  read_whole v (v.writes (Elt Ideal) f [p]) X

/-- `read_all`, the extents written out. -/
theorem read_all' (m : Memref sig .tc .vmem S256x4096 e) (h : m.IsWhole) (X : Vec Ideal S256x4096 e)
    (inb : ∀ a, (![0, 0] : Fin 2 → ℕ) a + (![256, 4096] : Fin 2 → ℕ) a ≤ S256x4096.size a) :
    View.readAt (Elt Ideal) m.view (Rect.unit (s := S256x4096) ![0, 0] ![256, 4096] inb).toLoadRect (h.unread X) = X := read_all m h X inb

/-- `read_col0`, the extents written out. -/
theorem read_col0' (m : Memref sig .tc .vmem S256x128 e) (h : m.IsWhole) (X : Vec Ideal S256x128 e)
    (inb : ∀ a, (![0, 0] : Fin 2 → ℕ) a + (![256, 1] : Fin 2 → ℕ) a ≤ S256x128.size a) :
    View.readAt (Elt Ideal) m.view (Rect.unit (s := S256x128) ![0, 0] ![256, 1] inb).toLoadRect (h.unread X) = col0 X := read_col0 m h X inb

/-! ## The body's steps, wherever they were cut -/

/-- The last half of a chunk's magnitudes. -/
def upper (v : FVec Ideal S256x256 .f32) : FVec Ideal S256x128 .f32 := extractStridedSlice S256x128 ![0, 128] v slices_S256x256_o0_128_S256x128

/-- The exponents of the block in the second window, from the running maxima. -/
theorem exp_mid (a : FVec Ideal S256x128 .f32) (v : FVec Ideal S256x256 .f32) (b : FVec Ideal S256x128 .f32) :
    k0_pay127 (F := Ideal) a v b = k0_pay206 (F := Ideal) (maximumf a (maximumf b (upper v))) := rfl

/-- Its scale. -/
theorem scale_mid (a : FVec Ideal S256x128 .f32) (v : FVec Ideal S256x256 .f32) (b : FVec Ideal S256x128 .f32) :
    k0_pay129 (F := Ideal) (k0_pay128 (F := Ideal) a v b) = k0_pay207 (F := Ideal) (maximumf a (maximumf b (upper v))) := rfl

/-- The last maximum of the block the first point starts from. -/
def lastMax (h : FVec Ideal S256x256 .bf16) (a b d : FVec Ideal S256x128 .f32) (x : FVec Ideal S256x256 .bf16) (s : FVec Ideal S1x256 .f32) :
    FVec Ideal S256x128 .f32 := maximumf (maximumf a (maximumf b d)) (half (k0_pay81 (F := Ideal) h x s))

/-- The exponents of the block the first point starts from. -/
theorem exp_first (h : FVec Ideal S256x256 .bf16) (a b d : FVec Ideal S256x128 .f32) (x : FVec Ideal S256x256 .bf16) (s : FVec Ideal S1x256 .f32) :
    k0_pay50 (F := Ideal) (k0_pay47 (F := Ideal) h a b d x s) (k0_pay48 (F := Ideal) h a b d x s) (k0_pay49 (F := Ideal) h a b d x s) 255#32
      = k0_pay206 (F := Ideal) (lastMax h a b d x s) := rfl

/-- Its scale. -/
theorem scale_first (h : FVec Ideal S256x256 .bf16) (a b d : FVec Ideal S256x128 .f32) (x : FVec Ideal S256x256 .bf16) (s : FVec Ideal S1x256 .f32) :
    k0_pay51 (F := Ideal) (k0_pay47 (F := Ideal) h a b d x s) (k0_pay48 (F := Ideal) h a b d x s) (k0_pay49 (F := Ideal) h a b d x s) 255#32
      = k0_pay207 (F := Ideal) (lastMax h a b d x s) := rfl

/-- The reciprocals of its scale. -/
theorem inv_first (h : FVec Ideal S256x256 .bf16) (a b d : FVec Ideal S256x128 .f32) (x : FVec Ideal S256x256 .bf16) (s : FVec Ideal S1x256 .f32) :
    k0_pay52 (F := Ideal) (k0_pay47 (F := Ideal) h a b d x s) (k0_pay48 (F := Ideal) h a b d x s) (k0_pay49 (F := Ideal) h a b d x s) 255#32
      = k0_pay208 (F := Ideal) (k0_pay206 (F := Ideal) (lastMax h a b d x s)) := rfl

/-- Its first chunk of codes. -/
theorem code_first (h : FVec Ideal S256x256 .bf16) (a b d : FVec Ideal S256x128 .f32) (x : FVec Ideal S256x256 .bf16) (s : FVec Ideal S1x256 .f32)
    (v : FVec Ideal S256x256 .f32) :
    k0_pay53 (F := Ideal) (k0_pay47 (F := Ideal) h a b d x s) (k0_pay48 (F := Ideal) h a b d x s) (k0_pay49 (F := Ideal) h a b d x s) 255#32 v
      = k0_pay226 (F := Ideal) (k0_pay208 (F := Ideal) (k0_pay206 (F := Ideal) (lastMax h a b d x s))) v := rfl

end Cert.Quarot

end
-- ==== Proof.StepA.lean ====
/-
  THE FIRST POINT: WHAT IT WRITES.

  `x0` is the block it rotates before anything else, `x1`, `x2` its two blocks of rows, `x3` the signs, `x4` the matrix, `x5` and `x6`
  the weights.
-/
module

public import proofs.«01_k».proof.Proof.Tiles

@[expose] public section

set_option maxHeartbeats 2000000

noncomputable section

namespace Cert.Quarot

open Idealize.ShloMosaic Cert.KernelIdeal Cert.KernelIdeal.Gen

/-- The matrix. -/
theorem A_h (c : Dev nD) (arg5 : Memref sig .tc .vmem S256x256 .bf16) (harg5 : arg5.IsWhole) (x4 : Vec Ideal S256x256 .bf16) :
    (kernelRun0_A.sl.r (F := Ideal) c arg5 harg5 x4) = x4 := by
  simp (config := { proj := false }) only [kernelRun0_A.sl.r, read_h]
  try rfl

/-- The pieces of the first rotate: the chunks of the block in window 0. -/
theorem A_rot0 (c : Dev nD) (arg1 : Memref sig .tc .vmem S256x4096 .bf16) (harg1 : arg1.IsWhole) (arg4 : Memref sig .tc .vmem S1x4096 .f32) (harg4 : arg4.IsWhole) (arg5 : Memref sig .tc .vmem S256x256 .bf16) (harg5 : arg5.IsWhole) (x0 : Vec Ideal S256x4096 .bf16) (x3 : Vec Ideal S1x4096 .f32) (x4 : Vec Ideal S256x256 .bf16) :
    (kernelRun0_A.sl.HS0_16 (F := Ideal) c arg1 harg1 arg4 harg4 arg5 harg5 x0 x3 x4) = cols (rotC x4 x0 x3) := by
  simp (config := { proj := false }) only [kernelRun0_A.sl.HS0_16, kernelRun0_A.sl.r_13, kernelRun0_A.sl.r_10, kernelRun0_A.sl.r_8, kernelRun0_A.sl.r_5, kernelRun0_A.sl.r_6, kernelRun0_A.sl.r_3, A_h, read_cut (k := 15) (o := 3840) (ho := rfl), read_cut1 (k := 15) (o := 3840) (ho := rfl), read_cut (k := 14) (o := 3584) (ho := rfl), read_cut1 (k := 14) (o := 3584) (ho := rfl), read_cut (k := 13) (o := 3328) (ho := rfl), read_cut1 (k := 13) (o := 3328) (ho := rfl), read_cut (k := 11) (o := 2816) (ho := rfl), read_cut1 (k := 11) (o := 2816) (ho := rfl), read_cut (k := 9) (o := 2304) (ho := rfl), read_cut1 (k := 9) (o := 2304) (ho := rfl), read_cut (k := 7) (o := 1792) (ho := rfl), read_cut1 (k := 7) (o := 1792) (ho := rfl), read_cut (k := 5) (o := 1280) (ho := rfl), read_cut1 (k := 5) (o := 1280) (ho := rfl), read_cut1 (k := 4) (o := 1024) (ho := rfl), read_cut (k := 3) (o := 768) (ho := rfl), read_cut1 (k := 3) (o := 768) (ho := rfl), read_cut (k := 2) (o := 512) (ho := rfl), read_cut1 (k := 2) (o := 512) (ho := rfl), read_h, read_cut (k := 1) (o := 256) (ho := rfl), read_cut1 (k := 1) (o := 256) (ho := rfl), read_cut (k := 0) (o := 0) (ho := rfl), read_cut1 (k := 0) (o := 0) (ho := rfl), read_cut (k := 12) (o := 3072) (ho := rfl), read_cut1 (k := 12) (o := 3072) (ho := rfl), read_cut (k := 10) (o := 2560) (ho := rfl), read_cut1 (k := 10) (o := 2560) (ho := rfl), read_cut (k := 8) (o := 2048) (ho := rfl), read_cut1 (k := 8) (o := 2048) (ho := rfl), read_cut (k := 6) (o := 1536) (ho := rfl), read_cut1 (k := 6) (o := 1536) (ho := rfl), read_cut (k := 4) (o := 1024) (ho := rfl)]
  rfl

/-- The magnitudes of the first 2 chunks. -/
theorem A_r_1 (c : Dev nD) (arg1 : Memref sig .tc .vmem S256x4096 .bf16) (harg1 : arg1.IsWhole) (arg4 : Memref sig .tc .vmem S1x4096 .f32) (harg4 : arg4.IsWhole) (arg5 : Memref sig .tc .vmem S256x256 .bf16) (harg5 : arg5.IsWhole) (x0 : Vec Ideal S256x4096 .bf16) (x3 : Vec Ideal S1x4096 .f32) (x4 : Vec Ideal S256x256 .bf16) :
    (kernelRun0_A.sl.r_1 (F := Ideal) c arg1 harg1 arg4 harg4 arg5 harg5 x0 x3 x4) = (maximumf (half (rawC x4 x0 x3 0)) (half (rawC x4 x0 x3 1))) := by
  simp (config := { proj := false }) only [kernelRun0_A.sl.r_1, read_h, read_cut (k := 0) (o := 0) (ho := rfl), read_cut1 (k := 0) (o := 0) (ho := rfl), read_cut (k := 1) (o := 256) (ho := rfl), read_cut1 (k := 1) (o := 256) (ho := rfl)]
  rfl

/-- The magnitudes of the first 4 chunks. -/
theorem A_r_2 (c : Dev nD) (arg1 : Memref sig .tc .vmem S256x4096 .bf16) (harg1 : arg1.IsWhole) (arg4 : Memref sig .tc .vmem S1x4096 .f32) (harg4 : arg4.IsWhole) (arg5 : Memref sig .tc .vmem S256x256 .bf16) (harg5 : arg5.IsWhole) (x0 : Vec Ideal S256x4096 .bf16) (x3 : Vec Ideal S1x4096 .f32) (x4 : Vec Ideal S256x256 .bf16) :
    (kernelRun0_A.sl.r_2 (F := Ideal) c arg1 harg1 arg4 harg4 arg5 harg5 x0 x3 x4) = (maximumf (maximumf (maximumf (half (rawC x4 x0 x3 0)) (half (rawC x4 x0 x3 1))) (half (rawC x4 x0 x3 2))) (half (rawC x4 x0 x3 3))) := by
  simp (config := { proj := false }) only [kernelRun0_A.sl.r_2, A_h, A_r_1, read_cut (k := 2) (o := 512) (ho := rfl), read_cut1 (k := 2) (o := 512) (ho := rfl), read_cut (k := 3) (o := 768) (ho := rfl), read_cut1 (k := 3) (o := 768) (ho := rfl)]
  rfl

/-- The magnitudes of the first 6 chunks. -/
theorem A_r_4 (c : Dev nD) (arg1 : Memref sig .tc .vmem S256x4096 .bf16) (harg1 : arg1.IsWhole) (arg4 : Memref sig .tc .vmem S1x4096 .f32) (harg4 : arg4.IsWhole) (arg5 : Memref sig .tc .vmem S256x256 .bf16) (harg5 : arg5.IsWhole) (x0 : Vec Ideal S256x4096 .bf16) (x3 : Vec Ideal S1x4096 .f32) (x4 : Vec Ideal S256x256 .bf16) :
    (kernelRun0_A.sl.r_4 (F := Ideal) c arg1 harg1 arg4 harg4 arg5 harg5 x0 x3 x4) = (maximumf (maximumf (maximumf (maximumf (maximumf (half (rawC x4 x0 x3 0)) (half (rawC x4 x0 x3 1))) (half (rawC x4 x0 x3 2))) (half (rawC x4 x0 x3 3))) (half (rawC x4 x0 x3 4))) (half (rawC x4 x0 x3 5))) := by
  simp (config := { proj := false }) only [kernelRun0_A.sl.r_4, kernelRun0_A.sl.r_3, A_h, A_r_2, read_cut1 (k := 4) (o := 1024) (ho := rfl), read_cut (k := 5) (o := 1280) (ho := rfl), read_cut1 (k := 5) (o := 1280) (ho := rfl), read_cut (k := 4) (o := 1024) (ho := rfl)]
  rfl

/-- The magnitudes of the first 8 chunks. -/
theorem A_r_7 (c : Dev nD) (arg1 : Memref sig .tc .vmem S256x4096 .bf16) (harg1 : arg1.IsWhole) (arg4 : Memref sig .tc .vmem S1x4096 .f32) (harg4 : arg4.IsWhole) (arg5 : Memref sig .tc .vmem S256x256 .bf16) (harg5 : arg5.IsWhole) (x0 : Vec Ideal S256x4096 .bf16) (x3 : Vec Ideal S1x4096 .f32) (x4 : Vec Ideal S256x256 .bf16) :
    (kernelRun0_A.sl.r_7 (F := Ideal) c arg1 harg1 arg4 harg4 arg5 harg5 x0 x3 x4) = (maximumf (maximumf (maximumf (maximumf (maximumf (maximumf (maximumf (half (rawC x4 x0 x3 0)) (half (rawC x4 x0 x3 1))) (half (rawC x4 x0 x3 2))) (half (rawC x4 x0 x3 3))) (half (rawC x4 x0 x3 4))) (half (rawC x4 x0 x3 5))) (half (rawC x4 x0 x3 6))) (half (rawC x4 x0 x3 7))) := by
  simp (config := { proj := false }) only [kernelRun0_A.sl.r_7, kernelRun0_A.sl.r_5, kernelRun0_A.sl.r_6, A_h, A_r_4, read_cut (k := 7) (o := 1792) (ho := rfl), read_cut1 (k := 7) (o := 1792) (ho := rfl), read_cut (k := 6) (o := 1536) (ho := rfl), read_cut1 (k := 6) (o := 1536) (ho := rfl)]
  rfl

/-- The magnitudes of the first 10 chunks. -/
theorem A_r_9 (c : Dev nD) (arg1 : Memref sig .tc .vmem S256x4096 .bf16) (harg1 : arg1.IsWhole) (arg4 : Memref sig .tc .vmem S1x4096 .f32) (harg4 : arg4.IsWhole) (arg5 : Memref sig .tc .vmem S256x256 .bf16) (harg5 : arg5.IsWhole) (x0 : Vec Ideal S256x4096 .bf16) (x3 : Vec Ideal S1x4096 .f32) (x4 : Vec Ideal S256x256 .bf16) :
    (kernelRun0_A.sl.r_9 (F := Ideal) c arg1 harg1 arg4 harg4 arg5 harg5 x0 x3 x4) = (maximumf (maximumf (maximumf (maximumf (maximumf (maximumf (maximumf (maximumf (maximumf (half (rawC x4 x0 x3 0)) (half (rawC x4 x0 x3 1))) (half (rawC x4 x0 x3 2))) (half (rawC x4 x0 x3 3))) (half (rawC x4 x0 x3 4))) (half (rawC x4 x0 x3 5))) (half (rawC x4 x0 x3 6))) (half (rawC x4 x0 x3 7))) (half (rawC x4 x0 x3 8))) (half (rawC x4 x0 x3 9))) := by
  simp (config := { proj := false }) only [kernelRun0_A.sl.r_9, kernelRun0_A.sl.r_8, A_h, A_r_7, read_cut (k := 9) (o := 2304) (ho := rfl), read_cut1 (k := 9) (o := 2304) (ho := rfl), read_cut (k := 8) (o := 2048) (ho := rfl), read_cut1 (k := 8) (o := 2048) (ho := rfl)]
  rfl

/-- The magnitudes of the first 12 chunks. -/
theorem A_r_11 (c : Dev nD) (arg1 : Memref sig .tc .vmem S256x4096 .bf16) (harg1 : arg1.IsWhole) (arg4 : Memref sig .tc .vmem S1x4096 .f32) (harg4 : arg4.IsWhole) (arg5 : Memref sig .tc .vmem S256x256 .bf16) (harg5 : arg5.IsWhole) (x0 : Vec Ideal S256x4096 .bf16) (x3 : Vec Ideal S1x4096 .f32) (x4 : Vec Ideal S256x256 .bf16) :
    (kernelRun0_A.sl.r_11 (F := Ideal) c arg1 harg1 arg4 harg4 arg5 harg5 x0 x3 x4) = (maximumf (maximumf (maximumf (maximumf (maximumf (maximumf (maximumf (maximumf (maximumf (maximumf (maximumf (half (rawC x4 x0 x3 0)) (half (rawC x4 x0 x3 1))) (half (rawC x4 x0 x3 2))) (half (rawC x4 x0 x3 3))) (half (rawC x4 x0 x3 4))) (half (rawC x4 x0 x3 5))) (half (rawC x4 x0 x3 6))) (half (rawC x4 x0 x3 7))) (half (rawC x4 x0 x3 8))) (half (rawC x4 x0 x3 9))) (half (rawC x4 x0 x3 10))) (half (rawC x4 x0 x3 11))) := by
  simp (config := { proj := false }) only [kernelRun0_A.sl.r_11, kernelRun0_A.sl.r_10, A_h, A_r_9, read_cut (k := 11) (o := 2816) (ho := rfl), read_cut1 (k := 11) (o := 2816) (ho := rfl), read_cut (k := 10) (o := 2560) (ho := rfl), read_cut1 (k := 10) (o := 2560) (ho := rfl)]
  rfl

/-- The magnitudes of the first 14 chunks. -/
theorem A_r_14 (c : Dev nD) (arg1 : Memref sig .tc .vmem S256x4096 .bf16) (harg1 : arg1.IsWhole) (arg4 : Memref sig .tc .vmem S1x4096 .f32) (harg4 : arg4.IsWhole) (arg5 : Memref sig .tc .vmem S256x256 .bf16) (harg5 : arg5.IsWhole) (x0 : Vec Ideal S256x4096 .bf16) (x3 : Vec Ideal S1x4096 .f32) (x4 : Vec Ideal S256x256 .bf16) :
    (kernelRun0_A.sl.r_14 (F := Ideal) c arg1 harg1 arg4 harg4 arg5 harg5 x0 x3 x4) = (maximumf (maximumf (maximumf (maximumf (maximumf (maximumf (maximumf (maximumf (maximumf (maximumf (maximumf (maximumf (maximumf (half (rawC x4 x0 x3 0)) (half (rawC x4 x0 x3 1))) (half (rawC x4 x0 x3 2))) (half (rawC x4 x0 x3 3))) (half (rawC x4 x0 x3 4))) (half (rawC x4 x0 x3 5))) (half (rawC x4 x0 x3 6))) (half (rawC x4 x0 x3 7))) (half (rawC x4 x0 x3 8))) (half (rawC x4 x0 x3 9))) (half (rawC x4 x0 x3 10))) (half (rawC x4 x0 x3 11))) (half (rawC x4 x0 x3 12))) (half (rawC x4 x0 x3 13))) := by
  simp (config := { proj := false }) only [kernelRun0_A.sl.r_14, kernelRun0_A.sl.r_12, A_h, A_r_11, read_cut (k := 13) (o := 3328) (ho := rfl), read_cut1 (k := 13) (o := 3328) (ho := rfl), read_cut (k := 12) (o := 3072) (ho := rfl), read_cut1 (k := 12) (o := 3072) (ho := rfl)]
  rfl

/-- The first rotate's reciprocals. -/
theorem A_inv0 (c : Dev nD) (arg1 : Memref sig .tc .vmem S256x4096 .bf16) (harg1 : arg1.IsWhole) (arg4 : Memref sig .tc .vmem S1x4096 .f32) (harg4 : arg4.IsWhole) (arg5 : Memref sig .tc .vmem S256x256 .bf16) (harg5 : arg5.IsWhole) (x0 : Vec Ideal S256x4096 .bf16) (x3 : Vec Ideal S1x4096 .f32) (x4 : Vec Ideal S256x256 .bf16) :
    (kernelRun0_A.sl.r_20 (F := Ideal) c arg1 harg1 arg4 harg4 arg5 harg5 x0 x3 x4) = k0_pay208 (F := Ideal) (k0_pay206 (F := Ideal) (amaxOf x4 x0 x3)) := by
  simp (config := { proj := false }) only [kernelRun0_A.sl.r_20, kernelRun0_A.sl.r_17, kernelRun0_A.sl.r_15, kernelRun0_A.sl.r_16, kernelRun0_A.sl.r_18, kernelRun0_A.sl.r_19, A_h, A_r_14, read_cut (k := 15) (o := 3840) (ho := rfl), read_cut1 (k := 15) (o := 3840) (ho := rfl), read_cut (k := 14) (o := 3584) (ho := rfl), read_cut1 (k := 14) (o := 3584) (ho := rfl), inv_first]
  rfl

/-- The first rotate's first chunk of codes. -/
theorem A_code0 (c : Dev nD) (arg1 : Memref sig .tc .vmem S256x4096 .bf16) (harg1 : arg1.IsWhole) (arg4 : Memref sig .tc .vmem S1x4096 .f32) (harg4 : arg4.IsWhole) (arg5 : Memref sig .tc .vmem S256x256 .bf16) (harg5 : arg5.IsWhole) (arg11 : Memref sig .tc .vmem S256x4096 .f32) (x0 : Vec Ideal S256x4096 .bf16) (x3 : Vec Ideal S1x4096 .f32) (x4 : Vec Ideal S256x256 .bf16) :
    (kernelRun0_A.sl.r_21 (F := Ideal) c arg1 harg1 arg4 harg4 arg5 harg5 arg11 x0 x3 x4) = codeC x4 x0 x3 0 := by
  simp (config := { proj := false }) only [kernelRun0_A.sl.r_21, kernelRun0_A.sl.r_17, kernelRun0_A.sl.r_15, kernelRun0_A.sl.r_16, kernelRun0_A.sl.r_18, kernelRun0_A.sl.r_19, kernelRun0_A.sl.v1575, A_h, A_r_14, A_rot0, read_cut (k := 15) (o := 3840) (ho := rfl), read_cut1 (k := 15) (o := 3840) (ho := rfl), read_cut (k := 14) (o := 3584) (ho := rfl), read_cut1 (k := 14) (o := 3584) (ho := rfl), cov_cut_nil (k := 0) (o := 0) (ho := rfl), code_first]
  rfl

/-- The first rotate's scale. -/
theorem A_scale0 (c : Dev nD) (arg1 : Memref sig .tc .vmem S256x4096 .bf16) (harg1 : arg1.IsWhole) (arg4 : Memref sig .tc .vmem S1x4096 .f32) (harg4 : arg4.IsWhole) (arg5 : Memref sig .tc .vmem S256x256 .bf16) (harg5 : arg5.IsWhole) (x0 : Vec Ideal S256x4096 .bf16) (x3 : Vec Ideal S1x4096 .f32) (x4 : Vec Ideal S256x256 .bf16) :
    (kernelRun0_A.sl.HS3_1 (F := Ideal) c arg1 harg1 arg4 harg4 arg5 harg5 x0 x3 x4) = [⟨Rect.unit ![0, 0] S256x128.size inb_S256x128_S256x128_0_0, scaleOf x4 x0 x3⟩] := by
  simp (config := { proj := false }) only [kernelRun0_A.sl.HS3_1, kernelRun0_A.sl.r_17, kernelRun0_A.sl.r_15, kernelRun0_A.sl.r_16, kernelRun0_A.sl.r_18, kernelRun0_A.sl.r_19, A_h, A_r_14, read_cut (k := 15) (o := 3840) (ho := rfl), read_cut1 (k := 15) (o := 3840) (ho := rfl), read_cut (k := 14) (o := 3584) (ho := rfl), read_cut1 (k := 14) (o := 3584) (ho := rfl), scale_first]
  rfl

/-- The pieces of the first rotate's codes. -/
theorem A_codes0 (c : Dev nD) (arg1 : Memref sig .tc .vmem S256x4096 .bf16) (harg1 : arg1.IsWhole) (arg4 : Memref sig .tc .vmem S1x4096 .f32) (harg4 : arg4.IsWhole) (arg5 : Memref sig .tc .vmem S256x256 .bf16) (harg5 : arg5.IsWhole) (arg11 : Memref sig .tc .vmem S256x4096 .f32) (x0 : Vec Ideal S256x4096 .bf16) (x3 : Vec Ideal S1x4096 .f32) (x4 : Vec Ideal S256x256 .bf16) :
    (kernelRun0_A.sl.HS1_16 (F := Ideal) c arg1 harg1 arg4 harg4 arg5 harg5 arg11 x0 x3 x4) = cols (codeC x4 x0 x3) := by
  simp (config := { proj := false }) only [kernelRun0_A.sl.HS1_16, kernelRun0_A.sl.v1740, kernelRun0_A.sl.r_25, kernelRun0_A.sl.v1729, kernelRun0_A.sl.v1718, kernelRun0_A.sl.v1707, kernelRun0_A.sl.v1696, kernelRun0_A.sl.r_24, kernelRun0_A.sl.v1685, kernelRun0_A.sl.v1674, kernelRun0_A.sl.v1663, kernelRun0_A.sl.r_23, kernelRun0_A.sl.v1652, kernelRun0_A.sl.v1641, kernelRun0_A.sl.v1630, kernelRun0_A.sl.r_22, kernelRun0_A.sl.v1619, kernelRun0_A.sl.v1608, kernelRun0_A.sl.v1597, kernelRun0_A.sl.v1586, A_inv0, A_rot0, A_code0, cov_cut_nil (k := 15) (o := 3840) (ho := rfl), cov_cut_nil (k := 14) (o := 3584) (ho := rfl), cov_cut_nil (k := 13) (o := 3328) (ho := rfl), cov_cut_nil (k := 12) (o := 3072) (ho := rfl), cov_cut_nil (k := 11) (o := 2816) (ho := rfl), cov_cut_nil (k := 10) (o := 2560) (ho := rfl), cov_cut_nil (k := 9) (o := 2304) (ho := rfl), cov_cut_nil (k := 8) (o := 2048) (ho := rfl), cov_cut_nil (k := 7) (o := 1792) (ho := rfl), cov_cut_nil (k := 6) (o := 1536) (ho := rfl), cov_cut_nil (k := 5) (o := 1280) (ho := rfl), cov_cut_nil (k := 4) (o := 1024) (ho := rfl), cov_cut_nil (k := 3) (o := 768) (ho := rfl), cov_cut_nil (k := 2) (o := 512) (ho := rfl), cov_cut_nil (k := 1) (o := 256) (ho := rfl)]
  rfl

/-- The first rotate's codes. -/
theorem A_all0 (c : Dev nD) (arg1 : Memref sig .tc .vmem S256x4096 .bf16) (harg1 : arg1.IsWhole) (arg4 : Memref sig .tc .vmem S1x4096 .f32) (harg4 : arg4.IsWhole) (arg5 : Memref sig .tc .vmem S256x256 .bf16) (harg5 : arg5.IsWhole) (arg11 : Memref sig .tc .vmem S256x4096 .f32) (arg12 : Memref sig .tc .vmem S256x4096 .fp8e4m3) (x0 : Vec Ideal S256x4096 .bf16) (x3 : Vec Ideal S1x4096 .f32) (x4 : Vec Ideal S256x256 .bf16) :
    (kernelRun0_A.sl.v3 (F := Ideal) c arg1 harg1 arg4 harg4 arg5 harg5 arg11 arg12 x0 x3 x4) = codesOf x4 x0 x3 := by
  simp (config := { proj := false }) only [kernelRun0_A.sl.v3, A_codes0, cov_all_nil]
  rfl

/-- The first rotate's scale, one column of it. -/
theorem A_col0 (c : Dev nD) (arg1 : Memref sig .tc .vmem S256x4096 .bf16) (harg1 : arg1.IsWhole) (arg4 : Memref sig .tc .vmem S1x4096 .f32) (harg4 : arg4.IsWhole) (arg5 : Memref sig .tc .vmem S256x256 .bf16) (harg5 : arg5.IsWhole) (arg14 : Memref sig .tc .vmem S256x128 .f32) (x0 : Vec Ideal S256x4096 .bf16) (x3 : Vec Ideal S1x4096 .f32) (x4 : Vec Ideal S256x256 .bf16) :
    (kernelRun0_A.sl.v4 (F := Ideal) c arg1 harg1 arg4 harg4 arg5 harg5 arg14 x0 x3 x4) = col0 (scaleOf x4 x0 x3) := by
  simp (config := { proj := false }) only [kernelRun0_A.sl.v4, A_scale0, cov_col0]
  try rfl

/-- The pieces of the second rotate, on top of the first. -/
theorem A_rot1 (c : Dev nD) (arg1 : Memref sig .tc .vmem S256x4096 .bf16) (harg1 : arg1.IsWhole) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (x0 : Vec Ideal S256x4096 .bf16) (x1 : Vec Ideal S256x4096 .bf16) (x3 : Vec Ideal S1x4096 .f32) (x4 : Vec Ideal S256x256 .bf16) :
    (kernelRun0_A.sl.HS0_32 (F := Ideal) c arg1 harg1 arg2 harg2 arg4 harg4 arg5 harg5 x0 x1 x3 x4) = cols (rotC x4 x1 x3) ++ cols (rotC x4 x0 x3) := by
  simp (config := { proj := false }) only [kernelRun0_A.sl.HS0_32, kernelRun0_A.sl.r_41, kernelRun0_A.sl.r_39, kernelRun0_A.sl.r_37, kernelRun0_A.sl.cst_127, kernelRun0_A.sl.r_34, kernelRun0_A.sl.r_35, kernelRun0_A.sl.r_32, A_h, A_rot0, read_cut (k := 15) (o := 3840) (ho := rfl), read_cut1 (k := 15) (o := 3840) (ho := rfl), read_cut (k := 14) (o := 3584) (ho := rfl), read_cut1 (k := 14) (o := 3584) (ho := rfl), read_cut (k := 12) (o := 3072) (ho := rfl), read_cut1 (k := 12) (o := 3072) (ho := rfl), read_cut (k := 10) (o := 2560) (ho := rfl), read_cut1 (k := 10) (o := 2560) (ho := rfl), read_cut (k := 8) (o := 2048) (ho := rfl), read_cut1 (k := 8) (o := 2048) (ho := rfl), read_cut (k := 6) (o := 1536) (ho := rfl), read_cut1 (k := 6) (o := 1536) (ho := rfl), read_cut1 (k := 5) (o := 1280) (ho := rfl), read_cut (k := 4) (o := 1024) (ho := rfl), read_cut1 (k := 4) (o := 1024) (ho := rfl), read_cut (k := 3) (o := 768) (ho := rfl), read_cut1 (k := 3) (o := 768) (ho := rfl), read_cut (k := 2) (o := 512) (ho := rfl), read_cut1 (k := 2) (o := 512) (ho := rfl), read_cut (k := 1) (o := 256) (ho := rfl), read_cut1 (k := 1) (o := 256) (ho := rfl), read_h, read_cut (k := 0) (o := 0) (ho := rfl), read_cut1 (k := 0) (o := 0) (ho := rfl), read_cut (k := 13) (o := 3328) (ho := rfl), read_cut1 (k := 13) (o := 3328) (ho := rfl), read_cut (k := 11) (o := 2816) (ho := rfl), read_cut1 (k := 11) (o := 2816) (ho := rfl), read_cut (k := 9) (o := 2304) (ho := rfl), read_cut1 (k := 9) (o := 2304) (ho := rfl), read_cut (k := 7) (o := 1792) (ho := rfl), read_cut1 (k := 7) (o := 1792) (ho := rfl), read_cut (k := 5) (o := 1280) (ho := rfl)]
  rfl

/-- The magnitudes of the first 3 chunks. -/
theorem A_r_30 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (x1 : Vec Ideal S256x4096 .bf16) (x3 : Vec Ideal S1x4096 .f32) (x4 : Vec Ideal S256x256 .bf16) :
    (kernelRun0_A.sl.r_30 (F := Ideal) c arg2 harg2 arg4 harg4 arg5 harg5 x1 x3 x4) = (maximumf (maximumf (half (rawC x4 x1 x3 0)) (half (rawC x4 x1 x3 1))) (half (rawC x4 x1 x3 2))) := by
  simp (config := { proj := false }) only [kernelRun0_A.sl.r_30, kernelRun0_A.sl.r_29, A_h, read_cut (k := 1) (o := 256) (ho := rfl), read_cut1 (k := 1) (o := 256) (ho := rfl), read_cut (k := 2) (o := 512) (ho := rfl), read_cut1 (k := 2) (o := 512) (ho := rfl), read_h, read_cut (k := 0) (o := 0) (ho := rfl), read_cut1 (k := 0) (o := 0) (ho := rfl)]
  rfl

/-- The magnitudes of the first 5 chunks. -/
theorem A_r_31 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (x1 : Vec Ideal S256x4096 .bf16) (x3 : Vec Ideal S1x4096 .f32) (x4 : Vec Ideal S256x256 .bf16) :
    (kernelRun0_A.sl.r_31 (F := Ideal) c arg2 harg2 arg4 harg4 arg5 harg5 x1 x3 x4) = (maximumf (maximumf (maximumf (maximumf (half (rawC x4 x1 x3 0)) (half (rawC x4 x1 x3 1))) (half (rawC x4 x1 x3 2))) (half (rawC x4 x1 x3 3))) (half (rawC x4 x1 x3 4))) := by
  simp (config := { proj := false }) only [kernelRun0_A.sl.r_31, A_h, A_r_30, read_cut (k := 3) (o := 768) (ho := rfl), read_cut1 (k := 3) (o := 768) (ho := rfl), read_cut (k := 4) (o := 1024) (ho := rfl), read_cut1 (k := 4) (o := 1024) (ho := rfl)]
  rfl

/-- The magnitudes of the first 7 chunks. -/
theorem A_r_33 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (x1 : Vec Ideal S256x4096 .bf16) (x3 : Vec Ideal S1x4096 .f32) (x4 : Vec Ideal S256x256 .bf16) :
    (kernelRun0_A.sl.r_33 (F := Ideal) c arg2 harg2 arg4 harg4 arg5 harg5 x1 x3 x4) = (maximumf (maximumf (maximumf (maximumf (maximumf (maximumf (half (rawC x4 x1 x3 0)) (half (rawC x4 x1 x3 1))) (half (rawC x4 x1 x3 2))) (half (rawC x4 x1 x3 3))) (half (rawC x4 x1 x3 4))) (half (rawC x4 x1 x3 5))) (half (rawC x4 x1 x3 6))) := by
  simp (config := { proj := false }) only [kernelRun0_A.sl.r_33, kernelRun0_A.sl.r_32, A_h, A_r_31, read_cut1 (k := 5) (o := 1280) (ho := rfl), read_cut (k := 6) (o := 1536) (ho := rfl), read_cut1 (k := 6) (o := 1536) (ho := rfl), read_cut (k := 5) (o := 1280) (ho := rfl)]
  rfl

/-- The magnitudes of the first 9 chunks. -/
theorem A_r_36 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (x1 : Vec Ideal S256x4096 .bf16) (x3 : Vec Ideal S1x4096 .f32) (x4 : Vec Ideal S256x256 .bf16) :
    (kernelRun0_A.sl.r_36 (F := Ideal) c arg2 harg2 arg4 harg4 arg5 harg5 x1 x3 x4) = (maximumf (maximumf (maximumf (maximumf (maximumf (maximumf (maximumf (maximumf (half (rawC x4 x1 x3 0)) (half (rawC x4 x1 x3 1))) (half (rawC x4 x1 x3 2))) (half (rawC x4 x1 x3 3))) (half (rawC x4 x1 x3 4))) (half (rawC x4 x1 x3 5))) (half (rawC x4 x1 x3 6))) (half (rawC x4 x1 x3 7))) (half (rawC x4 x1 x3 8))) := by
  simp (config := { proj := false }) only [kernelRun0_A.sl.r_36, kernelRun0_A.sl.r_34, kernelRun0_A.sl.r_35, A_h, A_r_33, read_cut (k := 8) (o := 2048) (ho := rfl), read_cut1 (k := 8) (o := 2048) (ho := rfl), read_cut (k := 7) (o := 1792) (ho := rfl), read_cut1 (k := 7) (o := 1792) (ho := rfl)]
  rfl

/-- The magnitudes of the first 11 chunks. -/
theorem A_r_38 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (x1 : Vec Ideal S256x4096 .bf16) (x3 : Vec Ideal S1x4096 .f32) (x4 : Vec Ideal S256x256 .bf16) :
    (kernelRun0_A.sl.r_38 (F := Ideal) c arg2 harg2 arg4 harg4 arg5 harg5 x1 x3 x4) = (maximumf (maximumf (maximumf (maximumf (maximumf (maximumf (maximumf (maximumf (maximumf (maximumf (half (rawC x4 x1 x3 0)) (half (rawC x4 x1 x3 1))) (half (rawC x4 x1 x3 2))) (half (rawC x4 x1 x3 3))) (half (rawC x4 x1 x3 4))) (half (rawC x4 x1 x3 5))) (half (rawC x4 x1 x3 6))) (half (rawC x4 x1 x3 7))) (half (rawC x4 x1 x3 8))) (half (rawC x4 x1 x3 9))) (half (rawC x4 x1 x3 10))) := by
  simp (config := { proj := false }) only [kernelRun0_A.sl.r_38, kernelRun0_A.sl.r_37, kernelRun0_A.sl.cst_127, A_h, A_r_36, read_cut (k := 10) (o := 2560) (ho := rfl), read_cut1 (k := 10) (o := 2560) (ho := rfl), read_cut (k := 9) (o := 2304) (ho := rfl), read_cut1 (k := 9) (o := 2304) (ho := rfl)]
  rfl

/-- The magnitudes of the first 13 chunks. -/
theorem A_r_40 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (x1 : Vec Ideal S256x4096 .bf16) (x3 : Vec Ideal S1x4096 .f32) (x4 : Vec Ideal S256x256 .bf16) :
    (kernelRun0_A.sl.r_40 (F := Ideal) c arg2 harg2 arg4 harg4 arg5 harg5 x1 x3 x4) = (maximumf (maximumf (maximumf (maximumf (maximumf (maximumf (maximumf (maximumf (maximumf (maximumf (maximumf (maximumf (half (rawC x4 x1 x3 0)) (half (rawC x4 x1 x3 1))) (half (rawC x4 x1 x3 2))) (half (rawC x4 x1 x3 3))) (half (rawC x4 x1 x3 4))) (half (rawC x4 x1 x3 5))) (half (rawC x4 x1 x3 6))) (half (rawC x4 x1 x3 7))) (half (rawC x4 x1 x3 8))) (half (rawC x4 x1 x3 9))) (half (rawC x4 x1 x3 10))) (half (rawC x4 x1 x3 11))) (half (rawC x4 x1 x3 12))) := by
  simp (config := { proj := false }) only [kernelRun0_A.sl.r_40, kernelRun0_A.sl.r_39, A_h, A_r_38, read_cut (k := 12) (o := 3072) (ho := rfl), read_cut1 (k := 12) (o := 3072) (ho := rfl), read_cut (k := 11) (o := 2816) (ho := rfl), read_cut1 (k := 11) (o := 2816) (ho := rfl)]
  rfl

/-- The magnitudes of the first 15 chunks. -/
theorem A_r_42 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (x1 : Vec Ideal S256x4096 .bf16) (x3 : Vec Ideal S1x4096 .f32) (x4 : Vec Ideal S256x256 .bf16) :
    (kernelRun0_A.sl.r_42 (F := Ideal) c arg2 harg2 arg4 harg4 arg5 harg5 x1 x3 x4) = (maximumf (maximumf (maximumf (maximumf (maximumf (maximumf (maximumf (maximumf (maximumf (maximumf (maximumf (maximumf (maximumf (maximumf (half (rawC x4 x1 x3 0)) (half (rawC x4 x1 x3 1))) (half (rawC x4 x1 x3 2))) (half (rawC x4 x1 x3 3))) (half (rawC x4 x1 x3 4))) (half (rawC x4 x1 x3 5))) (half (rawC x4 x1 x3 6))) (half (rawC x4 x1 x3 7))) (half (rawC x4 x1 x3 8))) (half (rawC x4 x1 x3 9))) (half (rawC x4 x1 x3 10))) (half (rawC x4 x1 x3 11))) (half (rawC x4 x1 x3 12))) (half (rawC x4 x1 x3 13))) (half (rawC x4 x1 x3 14))) := by
  simp (config := { proj := false }) only [kernelRun0_A.sl.r_42, kernelRun0_A.sl.r_41, A_h, A_r_40, read_cut (k := 14) (o := 3584) (ho := rfl), read_cut1 (k := 14) (o := 3584) (ho := rfl), read_cut (k := 13) (o := 3328) (ho := rfl), read_cut1 (k := 13) (o := 3328) (ho := rfl)]
  rfl

/-- The second rotate's exponents. -/
theorem A_exp1 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (x1 : Vec Ideal S256x4096 .bf16) (x3 : Vec Ideal S1x4096 .f32) (x4 : Vec Ideal S256x256 .bf16) :
    (kernelRun0_A.sl.r_45 (F := Ideal) c arg2 harg2 arg4 harg4 arg5 harg5 x1 x3 x4) = k0_pay206 (F := Ideal) (amaxOf x4 x1 x3) := by
  simp (config := { proj := false }) only [kernelRun0_A.sl.r_45, kernelRun0_A.sl.r_43, kernelRun0_A.sl.r_44, A_r_42, A_h, read_cut (k := 15) (o := 3840) (ho := rfl), read_cut1 (k := 15) (o := 3840) (ho := rfl), exp_mid]
  rfl

/-- The second rotate's scale. -/
theorem A_scale1 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (x1 : Vec Ideal S256x4096 .bf16) (x3 : Vec Ideal S1x4096 .f32) (x4 : Vec Ideal S256x256 .bf16) :
    (kernelRun0_A.sl.HS4_1 (F := Ideal) c arg2 harg2 arg4 harg4 arg5 harg5 x1 x3 x4) = [⟨Rect.unit ![0, 0] S256x128.size inb_S256x128_S256x128_0_0, scaleOf x4 x1 x3⟩] := by
  simp (config := { proj := false }) only [kernelRun0_A.sl.HS4_1, kernelRun0_A.sl.r_46, kernelRun0_A.sl.r_43, kernelRun0_A.sl.r_44, A_r_42, A_h, read_cut (k := 15) (o := 3840) (ho := rfl), read_cut1 (k := 15) (o := 3840) (ho := rfl), scale_mid]
  rfl

/-- The pieces of the second rotate's codes. -/
theorem A_codes1 (c : Dev nD) (arg1 : Memref sig .tc .vmem S256x4096 .bf16) (harg1 : arg1.IsWhole) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (arg11 : Memref sig .tc .vmem S256x4096 .f32) (x0 : Vec Ideal S256x4096 .bf16) (x1 : Vec Ideal S256x4096 .bf16) (x3 : Vec Ideal S1x4096 .f32) (x4 : Vec Ideal S256x256 .bf16) :
    (kernelRun0_A.sl.HS2_16 (F := Ideal) c arg1 harg1 arg2 harg2 arg4 harg4 arg5 harg5 arg11 x0 x1 x3 x4) = cols (codeC x4 x1 x3) := by
  simp (config := { proj := false }) only [kernelRun0_A.sl.HS2_16, kernelRun0_A.sl.r_52, kernelRun0_A.sl.r_48, kernelRun0_A.sl.v600, kernelRun0_A.sl.v589, kernelRun0_A.sl.v578, kernelRun0_A.sl.r_51, kernelRun0_A.sl.v567, kernelRun0_A.sl.cst_206, kernelRun0_A.sl.v556, kernelRun0_A.sl.v545, kernelRun0_A.sl.v534, kernelRun0_A.sl.v523, kernelRun0_A.sl.v512, kernelRun0_A.sl.v501, kernelRun0_A.sl.r_50, kernelRun0_A.sl.v490, kernelRun0_A.sl.v479, kernelRun0_A.sl.v468, kernelRun0_A.sl.r_49, kernelRun0_A.sl.v457, kernelRun0_A.sl.v446, kernelRun0_A.sl.v435, A_exp1, A_rot1, cov_cut (k := 15) (o := 3840) (ho := rfl), cov_cut (k := 14) (o := 3584) (ho := rfl), cov_cut (k := 13) (o := 3328) (ho := rfl), cov_cut (k := 12) (o := 3072) (ho := rfl), cov_cut (k := 11) (o := 2816) (ho := rfl), cov_cut (k := 10) (o := 2560) (ho := rfl), cov_cut (k := 9) (o := 2304) (ho := rfl), cov_cut (k := 8) (o := 2048) (ho := rfl), cov_cut (k := 7) (o := 1792) (ho := rfl), cov_cut (k := 6) (o := 1536) (ho := rfl), cov_cut (k := 5) (o := 1280) (ho := rfl), cov_cut (k := 4) (o := 1024) (ho := rfl), cov_cut (k := 3) (o := 768) (ho := rfl), cov_cut (k := 2) (o := 512) (ho := rfl), cov_cut (k := 1) (o := 256) (ho := rfl), cov_cut (k := 0) (o := 0) (ho := rfl)]
  rfl

/-- The second rotate's codes. -/
theorem A_all1 (c : Dev nD) (arg1 : Memref sig .tc .vmem S256x4096 .bf16) (harg1 : arg1.IsWhole) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (arg11 : Memref sig .tc .vmem S256x4096 .f32) (arg13 : Memref sig .tc .vmem S256x4096 .fp8e4m3) (x0 : Vec Ideal S256x4096 .bf16) (x1 : Vec Ideal S256x4096 .bf16) (x3 : Vec Ideal S1x4096 .f32) (x4 : Vec Ideal S256x256 .bf16) :
    (kernelRun0_A.sl.v611 (F := Ideal) c arg1 harg1 arg2 harg2 arg4 harg4 arg5 harg5 arg11 arg13 x0 x1 x3 x4) = codesOf x4 x1 x3 := by
  simp (config := { proj := false }) only [kernelRun0_A.sl.v611, A_codes1, cov_all_nil]
  rfl

/-- The second rotate's scale, one column of it. -/
theorem A_col1 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (arg15 : Memref sig .tc .vmem S256x128 .f32) (x1 : Vec Ideal S256x4096 .bf16) (x3 : Vec Ideal S1x4096 .f32) (x4 : Vec Ideal S256x256 .bf16) :
    (kernelRun0_A.sl.v612 (F := Ideal) c arg2 harg2 arg4 harg4 arg5 harg5 arg15 x1 x3 x4) = col0 (scaleOf x4 x1 x3) := by
  simp (config := { proj := false }) only [kernelRun0_A.sl.v612, A_scale1, cov_col0]
  try rfl

/-- The pieces of the third rotate, on top of the others. -/
theorem A_rot2 (c : Dev nD) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (x0 : Vec Ideal S256x4096 .bf16) (x1 : Vec Ideal S256x4096 .bf16) (x2 : Vec Ideal S256x4096 .bf16) (x3 : Vec Ideal S1x4096 .f32) (x4 : Vec Ideal S256x256 .bf16) :
    (kernelRun0_A.sl.HS0_48 (F := Ideal) c arg1 harg1 arg2 harg2 arg3 harg3 arg4 harg4 arg5 harg5 x0 x1 x2 x3 x4) = cols (rotC x4 x2 x3) ++ (cols (rotC x4 x1 x3) ++ cols (rotC x4 x0 x3)) := by
  simp (config := { proj := false }) only [kernelRun0_A.sl.HS0_48, kernelRun0_A.sl.r_65, kernelRun0_A.sl.HS0_43, kernelRun0_A.sl.r_63, kernelRun0_A.sl.r_61, kernelRun0_A.sl.r_58, kernelRun0_A.sl.r_59, kernelRun0_A.sl.r_56, A_h, A_rot1, read_cut (k := 15) (o := 3840) (ho := rfl), read_cut1 (k := 15) (o := 3840) (ho := rfl), read_cut (k := 14) (o := 3584) (ho := rfl), read_cut1 (k := 14) (o := 3584) (ho := rfl), read_cut (k := 13) (o := 3328) (ho := rfl), read_cut1 (k := 13) (o := 3328) (ho := rfl), read_cut (k := 12) (o := 3072) (ho := rfl), read_cut1 (k := 12) (o := 3072) (ho := rfl), read_cut (k := 11) (o := 2816) (ho := rfl), read_cut1 (k := 11) (o := 2816) (ho := rfl), read_cut (k := 10) (o := 2560) (ho := rfl), read_cut1 (k := 10) (o := 2560) (ho := rfl), read_cut (k := 8) (o := 2048) (ho := rfl), read_cut1 (k := 8) (o := 2048) (ho := rfl), read_cut (k := 6) (o := 1536) (ho := rfl), read_cut1 (k := 6) (o := 1536) (ho := rfl), read_cut (k := 4) (o := 1024) (ho := rfl), read_cut1 (k := 4) (o := 1024) (ho := rfl), read_cut1 (k := 3) (o := 768) (ho := rfl), read_cut (k := 2) (o := 512) (ho := rfl), read_cut1 (k := 2) (o := 512) (ho := rfl), read_cut (k := 1) (o := 256) (ho := rfl), read_cut1 (k := 1) (o := 256) (ho := rfl), read_h, read_cut (k := 0) (o := 0) (ho := rfl), read_cut1 (k := 0) (o := 0) (ho := rfl), read_cut (k := 9) (o := 2304) (ho := rfl), read_cut1 (k := 9) (o := 2304) (ho := rfl), read_cut (k := 7) (o := 1792) (ho := rfl), read_cut1 (k := 7) (o := 1792) (ho := rfl), read_cut (k := 5) (o := 1280) (ho := rfl), read_cut1 (k := 5) (o := 1280) (ho := rfl), read_cut (k := 3) (o := 768) (ho := rfl)]
  rfl

/-- The magnitudes of the first 1 chunks. -/
theorem A_r_54 (c : Dev nD) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (x2 : Vec Ideal S256x4096 .bf16) (x3 : Vec Ideal S1x4096 .f32) (x4 : Vec Ideal S256x256 .bf16) :
    (kernelRun0_A.sl.r_54 (F := Ideal) c arg3 harg3 arg4 harg4 arg5 harg5 x2 x3 x4) = half (rawC x4 x2 x3 0) := by
  simp (config := { proj := false }) only [kernelRun0_A.sl.r_54, read_h, read_cut (k := 0) (o := 0) (ho := rfl), read_cut1 (k := 0) (o := 0) (ho := rfl)]
  rfl

/-- The magnitudes of the first 3 chunks. -/
theorem A_r_55 (c : Dev nD) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (x2 : Vec Ideal S256x4096 .bf16) (x3 : Vec Ideal S1x4096 .f32) (x4 : Vec Ideal S256x256 .bf16) :
    (kernelRun0_A.sl.r_55 (F := Ideal) c arg3 harg3 arg4 harg4 arg5 harg5 x2 x3 x4) = (maximumf (maximumf (half (rawC x4 x2 x3 0)) (half (rawC x4 x2 x3 1))) (half (rawC x4 x2 x3 2))) := by
  simp (config := { proj := false }) only [kernelRun0_A.sl.r_55, A_h, A_r_54, read_cut (k := 1) (o := 256) (ho := rfl), read_cut1 (k := 1) (o := 256) (ho := rfl), read_cut (k := 2) (o := 512) (ho := rfl), read_cut1 (k := 2) (o := 512) (ho := rfl)]
  rfl

/-- The magnitudes of the first 5 chunks. -/
theorem A_r_57 (c : Dev nD) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (x2 : Vec Ideal S256x4096 .bf16) (x3 : Vec Ideal S1x4096 .f32) (x4 : Vec Ideal S256x256 .bf16) :
    (kernelRun0_A.sl.r_57 (F := Ideal) c arg3 harg3 arg4 harg4 arg5 harg5 x2 x3 x4) = (maximumf (maximumf (maximumf (maximumf (half (rawC x4 x2 x3 0)) (half (rawC x4 x2 x3 1))) (half (rawC x4 x2 x3 2))) (half (rawC x4 x2 x3 3))) (half (rawC x4 x2 x3 4))) := by
  simp (config := { proj := false }) only [kernelRun0_A.sl.r_57, kernelRun0_A.sl.r_56, A_h, A_r_55, read_cut1 (k := 3) (o := 768) (ho := rfl), read_cut (k := 4) (o := 1024) (ho := rfl), read_cut1 (k := 4) (o := 1024) (ho := rfl), read_cut (k := 3) (o := 768) (ho := rfl)]
  rfl

/-- The magnitudes of the first 7 chunks. -/
theorem A_r_60 (c : Dev nD) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (x2 : Vec Ideal S256x4096 .bf16) (x3 : Vec Ideal S1x4096 .f32) (x4 : Vec Ideal S256x256 .bf16) :
    (kernelRun0_A.sl.r_60 (F := Ideal) c arg3 harg3 arg4 harg4 arg5 harg5 x2 x3 x4) = (maximumf (maximumf (maximumf (maximumf (maximumf (maximumf (half (rawC x4 x2 x3 0)) (half (rawC x4 x2 x3 1))) (half (rawC x4 x2 x3 2))) (half (rawC x4 x2 x3 3))) (half (rawC x4 x2 x3 4))) (half (rawC x4 x2 x3 5))) (half (rawC x4 x2 x3 6))) := by
  simp (config := { proj := false }) only [kernelRun0_A.sl.r_60, kernelRun0_A.sl.r_58, kernelRun0_A.sl.r_59, A_h, A_r_57, read_cut (k := 6) (o := 1536) (ho := rfl), read_cut1 (k := 6) (o := 1536) (ho := rfl), read_cut (k := 5) (o := 1280) (ho := rfl), read_cut1 (k := 5) (o := 1280) (ho := rfl)]
  rfl

/-- The magnitudes of the first 9 chunks. -/
theorem A_r_62 (c : Dev nD) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (x2 : Vec Ideal S256x4096 .bf16) (x3 : Vec Ideal S1x4096 .f32) (x4 : Vec Ideal S256x256 .bf16) :
    (kernelRun0_A.sl.r_62 (F := Ideal) c arg3 harg3 arg4 harg4 arg5 harg5 x2 x3 x4) = (maximumf (maximumf (maximumf (maximumf (maximumf (maximumf (maximumf (maximumf (half (rawC x4 x2 x3 0)) (half (rawC x4 x2 x3 1))) (half (rawC x4 x2 x3 2))) (half (rawC x4 x2 x3 3))) (half (rawC x4 x2 x3 4))) (half (rawC x4 x2 x3 5))) (half (rawC x4 x2 x3 6))) (half (rawC x4 x2 x3 7))) (half (rawC x4 x2 x3 8))) := by
  simp (config := { proj := false }) only [kernelRun0_A.sl.r_62, kernelRun0_A.sl.r_61, A_h, A_r_60, read_cut (k := 8) (o := 2048) (ho := rfl), read_cut1 (k := 8) (o := 2048) (ho := rfl), read_cut (k := 7) (o := 1792) (ho := rfl), read_cut1 (k := 7) (o := 1792) (ho := rfl)]
  rfl

/-- The magnitudes of the first 11 chunks. -/
theorem A_r_64 (c : Dev nD) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (x2 : Vec Ideal S256x4096 .bf16) (x3 : Vec Ideal S1x4096 .f32) (x4 : Vec Ideal S256x256 .bf16) :
    (kernelRun0_A.sl.r_64 (F := Ideal) c arg3 harg3 arg4 harg4 arg5 harg5 x2 x3 x4) = (maximumf (maximumf (maximumf (maximumf (maximumf (maximumf (maximumf (maximumf (maximumf (maximumf (half (rawC x4 x2 x3 0)) (half (rawC x4 x2 x3 1))) (half (rawC x4 x2 x3 2))) (half (rawC x4 x2 x3 3))) (half (rawC x4 x2 x3 4))) (half (rawC x4 x2 x3 5))) (half (rawC x4 x2 x3 6))) (half (rawC x4 x2 x3 7))) (half (rawC x4 x2 x3 8))) (half (rawC x4 x2 x3 9))) (half (rawC x4 x2 x3 10))) := by
  simp (config := { proj := false }) only [kernelRun0_A.sl.r_64, kernelRun0_A.sl.r_63, A_h, A_r_62, read_cut (k := 10) (o := 2560) (ho := rfl), read_cut1 (k := 10) (o := 2560) (ho := rfl), read_cut (k := 9) (o := 2304) (ho := rfl), read_cut1 (k := 9) (o := 2304) (ho := rfl)]
  rfl

/-- The magnitudes of the first 13 chunks. -/
theorem A_r_66 (c : Dev nD) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (x2 : Vec Ideal S256x4096 .bf16) (x3 : Vec Ideal S1x4096 .f32) (x4 : Vec Ideal S256x256 .bf16) :
    (kernelRun0_A.sl.r_66 (F := Ideal) c arg3 harg3 arg4 harg4 arg5 harg5 x2 x3 x4) = (maximumf (maximumf (maximumf (maximumf (maximumf (maximumf (maximumf (maximumf (maximumf (maximumf (maximumf (maximumf (half (rawC x4 x2 x3 0)) (half (rawC x4 x2 x3 1))) (half (rawC x4 x2 x3 2))) (half (rawC x4 x2 x3 3))) (half (rawC x4 x2 x3 4))) (half (rawC x4 x2 x3 5))) (half (rawC x4 x2 x3 6))) (half (rawC x4 x2 x3 7))) (half (rawC x4 x2 x3 8))) (half (rawC x4 x2 x3 9))) (half (rawC x4 x2 x3 10))) (half (rawC x4 x2 x3 11))) (half (rawC x4 x2 x3 12))) := by
  simp (config := { proj := false }) only [kernelRun0_A.sl.r_66, kernelRun0_A.sl.r_65, A_h, A_r_64, read_cut (k := 12) (o := 3072) (ho := rfl), read_cut1 (k := 12) (o := 3072) (ho := rfl), read_cut (k := 11) (o := 2816) (ho := rfl), read_cut1 (k := 11) (o := 2816) (ho := rfl)]
  rfl

/-- The magnitudes of the first 16 chunks. -/
theorem A_r_68 (c : Dev nD) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (x2 : Vec Ideal S256x4096 .bf16) (x3 : Vec Ideal S1x4096 .f32) (x4 : Vec Ideal S256x256 .bf16) :
    (kernelRun0_A.sl.r_68 (F := Ideal) c arg3 harg3 arg4 harg4 arg5 harg5 x2 x3 x4) = amaxOf x4 x2 x3 := by
  simp (config := { proj := false }) only [kernelRun0_A.sl.r_68, kernelRun0_A.sl.r_67, A_h, A_r_66, read_cut (k := 14) (o := 3584) (ho := rfl), read_cut1 (k := 14) (o := 3584) (ho := rfl), read_cut (k := 15) (o := 3840) (ho := rfl), read_cut1 (k := 15) (o := 3840) (ho := rfl), read_cut (k := 13) (o := 3328) (ho := rfl), read_cut1 (k := 13) (o := 3328) (ho := rfl)]
  rfl

/-- The codes left for the next point, as pieces. -/
theorem A_LS1 (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (arg6 : Memref sig .tc .vmem S4096x3584 .fp8e4m3) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S256x4096 .f32) (harg11 : arg11.IsWhole) (arg12 : Memref sig .tc .vmem S256x4096 .fp8e4m3) (harg12 : arg12.IsWhole) (arg13 : Memref sig .tc .vmem S256x4096 .fp8e4m3) (harg13 : arg13.IsWhole) (arg14 : Memref sig .tc .vmem S256x128 .f32) (harg14 : arg14.IsWhole) (arg15 : Memref sig .tc .vmem S256x128 .f32) (harg15 : arg15.IsWhole) (hc0 : cond0_0 i) (x0 : Vec Ideal S256x4096 .bf16) (x1 : Vec Ideal S256x4096 .bf16) (x2 : Vec Ideal S256x4096 .bf16) (x3 : Vec Ideal S1x4096 .f32) (x4 : Vec Ideal S256x256 .bf16) (x5 : Vec Ideal S4096x3584 .fp8e4m3) (x6 : Vec Ideal S1x3584 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.1 = cols (codeC x4 x2 x3) ++ cols (codeC x4 x0 x3) := by
  unfold kernelRun0_A
  dsimp only
  simp (config := { proj := false }) only [kernelRun0_A.sl.HS0_43, kernelRun0_A.sl.cst_127, kernelRun0_A.sl.cst_206, kernelRun0_A.sl.r_10, kernelRun0_A.sl.r_12, kernelRun0_A.sl.r_13, kernelRun0_A.sl.r_15, kernelRun0_A.sl.r_16, kernelRun0_A.sl.r_17, kernelRun0_A.sl.r_18, kernelRun0_A.sl.r_19, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_32, kernelRun0_A.sl.r_34, kernelRun0_A.sl.r_35, kernelRun0_A.sl.r_37, kernelRun0_A.sl.r_39, kernelRun0_A.sl.r_41, kernelRun0_A.sl.r_43, kernelRun0_A.sl.r_44, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_56, kernelRun0_A.sl.r_58, kernelRun0_A.sl.r_59, kernelRun0_A.sl.r_6, kernelRun0_A.sl.r_61, kernelRun0_A.sl.r_63, kernelRun0_A.sl.r_65, kernelRun0_A.sl.r_67, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_8, kernelRun0_A.sl.v1043, kernelRun0_A.sl.v1054, kernelRun0_A.sl.v1065, kernelRun0_A.sl.v1076, kernelRun0_A.sl.v1087, kernelRun0_A.sl.v1098, kernelRun0_A.sl.v1109, kernelRun0_A.sl.v1120, kernelRun0_A.sl.v1131, kernelRun0_A.sl.v1142, kernelRun0_A.sl.v1153, kernelRun0_A.sl.v1164, kernelRun0_A.sl.v1175, kernelRun0_A.sl.v1186, kernelRun0_A.sl.v1197, kernelRun0_A.sl.v1208, kernelRun0_A.sl.v1575, kernelRun0_A.sl.v1586, kernelRun0_A.sl.v1597, kernelRun0_A.sl.v1608, kernelRun0_A.sl.v1619, kernelRun0_A.sl.v1630, kernelRun0_A.sl.v1641, kernelRun0_A.sl.v1652, kernelRun0_A.sl.v1663, kernelRun0_A.sl.v1674, kernelRun0_A.sl.v1685, kernelRun0_A.sl.v1696, kernelRun0_A.sl.v1707, kernelRun0_A.sl.v1718, kernelRun0_A.sl.v1729, kernelRun0_A.sl.v1740, kernelRun0_A.sl.v435, kernelRun0_A.sl.v446, kernelRun0_A.sl.v457, kernelRun0_A.sl.v468, kernelRun0_A.sl.v479, kernelRun0_A.sl.v490, kernelRun0_A.sl.v501, kernelRun0_A.sl.v512, kernelRun0_A.sl.v523, kernelRun0_A.sl.v534, kernelRun0_A.sl.v545, kernelRun0_A.sl.v556, kernelRun0_A.sl.v567, kernelRun0_A.sl.v578, kernelRun0_A.sl.v589, kernelRun0_A.sl.v600, kernelRun0_A.sl.v907, A_h, A_rot0, A_r_1, A_r_2, A_r_4, A_r_7, A_r_9, A_r_11, A_r_14, A_inv0, A_code0, A_scale0, A_codes0, A_all0, A_col0, A_rot1, A_r_30, A_r_31, A_r_33, A_r_36, A_r_38, A_r_40, A_r_42, A_exp1, A_scale1, A_codes1, A_all1, A_col1, A_rot2, A_r_54, A_r_55, A_r_57, A_r_60, A_r_62, A_r_64, A_r_66, A_r_68, cov_cut (k := 0) (o := 0) (ho := rfl), cov_cut (k := 1) (o := 256) (ho := rfl), cov_cut (k := 2) (o := 512) (ho := rfl), cov_cut (k := 3) (o := 768) (ho := rfl), cov_cut (k := 4) (o := 1024) (ho := rfl), cov_cut (k := 5) (o := 1280) (ho := rfl), cov_cut (k := 6) (o := 1536) (ho := rfl), cov_cut (k := 7) (o := 1792) (ho := rfl), cov_cut (k := 8) (o := 2048) (ho := rfl), cov_cut (k := 9) (o := 2304) (ho := rfl), cov_cut (k := 10) (o := 2560) (ho := rfl), cov_cut (k := 11) (o := 2816) (ho := rfl), cov_cut (k := 12) (o := 3072) (ho := rfl), cov_cut (k := 13) (o := 3328) (ho := rfl), cov_cut (k := 14) (o := 3584) (ho := rfl), cov_cut (k := 15) (o := 3840) (ho := rfl)]
  try rfl

/-- The scale left for the next point. -/
theorem A_LS3 (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (arg6 : Memref sig .tc .vmem S4096x3584 .fp8e4m3) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S256x4096 .f32) (harg11 : arg11.IsWhole) (arg12 : Memref sig .tc .vmem S256x4096 .fp8e4m3) (harg12 : arg12.IsWhole) (arg13 : Memref sig .tc .vmem S256x4096 .fp8e4m3) (harg13 : arg13.IsWhole) (arg14 : Memref sig .tc .vmem S256x128 .f32) (harg14 : arg14.IsWhole) (arg15 : Memref sig .tc .vmem S256x128 .f32) (harg15 : arg15.IsWhole) (hc0 : cond0_0 i) (x0 : Vec Ideal S256x4096 .bf16) (x1 : Vec Ideal S256x4096 .bf16) (x2 : Vec Ideal S256x4096 .bf16) (x3 : Vec Ideal S1x4096 .f32) (x4 : Vec Ideal S256x256 .bf16) (x5 : Vec Ideal S4096x3584 .fp8e4m3) (x6 : Vec Ideal S1x3584 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.1 = [⟨Rect.unit ![0, 0] S256x128.size inb_S256x128_S256x128_0_0, scaleOf x4 x2 x3⟩, ⟨Rect.unit ![0, 0] S256x128.size inb_S256x128_S256x128_0_0, scaleOf x4 x0 x3⟩] := by
  unfold kernelRun0_A
  dsimp only
  simp (config := { proj := false }) only [kernelRun0_A.sl.HS0_43, kernelRun0_A.sl.cst_127, kernelRun0_A.sl.cst_206, kernelRun0_A.sl.r_10, kernelRun0_A.sl.r_12, kernelRun0_A.sl.r_13, kernelRun0_A.sl.r_15, kernelRun0_A.sl.r_16, kernelRun0_A.sl.r_17, kernelRun0_A.sl.r_18, kernelRun0_A.sl.r_19, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_32, kernelRun0_A.sl.r_34, kernelRun0_A.sl.r_35, kernelRun0_A.sl.r_37, kernelRun0_A.sl.r_39, kernelRun0_A.sl.r_41, kernelRun0_A.sl.r_43, kernelRun0_A.sl.r_44, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_56, kernelRun0_A.sl.r_58, kernelRun0_A.sl.r_59, kernelRun0_A.sl.r_6, kernelRun0_A.sl.r_61, kernelRun0_A.sl.r_63, kernelRun0_A.sl.r_65, kernelRun0_A.sl.r_67, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_8, kernelRun0_A.sl.v1043, kernelRun0_A.sl.v1054, kernelRun0_A.sl.v1065, kernelRun0_A.sl.v1076, kernelRun0_A.sl.v1087, kernelRun0_A.sl.v1098, kernelRun0_A.sl.v1109, kernelRun0_A.sl.v1120, kernelRun0_A.sl.v1131, kernelRun0_A.sl.v1142, kernelRun0_A.sl.v1153, kernelRun0_A.sl.v1164, kernelRun0_A.sl.v1175, kernelRun0_A.sl.v1186, kernelRun0_A.sl.v1197, kernelRun0_A.sl.v1208, kernelRun0_A.sl.v1575, kernelRun0_A.sl.v1586, kernelRun0_A.sl.v1597, kernelRun0_A.sl.v1608, kernelRun0_A.sl.v1619, kernelRun0_A.sl.v1630, kernelRun0_A.sl.v1641, kernelRun0_A.sl.v1652, kernelRun0_A.sl.v1663, kernelRun0_A.sl.v1674, kernelRun0_A.sl.v1685, kernelRun0_A.sl.v1696, kernelRun0_A.sl.v1707, kernelRun0_A.sl.v1718, kernelRun0_A.sl.v1729, kernelRun0_A.sl.v1740, kernelRun0_A.sl.v435, kernelRun0_A.sl.v446, kernelRun0_A.sl.v457, kernelRun0_A.sl.v468, kernelRun0_A.sl.v479, kernelRun0_A.sl.v490, kernelRun0_A.sl.v501, kernelRun0_A.sl.v512, kernelRun0_A.sl.v523, kernelRun0_A.sl.v534, kernelRun0_A.sl.v545, kernelRun0_A.sl.v556, kernelRun0_A.sl.v567, kernelRun0_A.sl.v578, kernelRun0_A.sl.v589, kernelRun0_A.sl.v600, kernelRun0_A.sl.v907, A_h, A_rot0, A_r_1, A_r_2, A_r_4, A_r_7, A_r_9, A_r_11, A_r_14, A_inv0, A_code0, A_scale0, A_codes0, A_all0, A_col0, A_rot1, A_r_30, A_r_31, A_r_33, A_r_36, A_r_38, A_r_40, A_r_42, A_exp1, A_scale1, A_codes1, A_all1, A_col1, A_rot2, A_r_54, A_r_55, A_r_57, A_r_60, A_r_62, A_r_64, A_r_66, A_r_68]
  try rfl

/-- The codes written. -/
theorem A_L8 (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (arg6 : Memref sig .tc .vmem S4096x3584 .fp8e4m3) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S256x4096 .f32) (harg11 : arg11.IsWhole) (arg12 : Memref sig .tc .vmem S256x4096 .fp8e4m3) (harg12 : arg12.IsWhole) (arg13 : Memref sig .tc .vmem S256x4096 .fp8e4m3) (harg13 : arg13.IsWhole) (arg14 : Memref sig .tc .vmem S256x128 .f32) (harg14 : arg14.IsWhole) (arg15 : Memref sig .tc .vmem S256x128 .f32) (harg15 : arg15.IsWhole) (hc0 : cond0_0 i) (x0 : Vec Ideal S256x4096 .bf16) (x1 : Vec Ideal S256x4096 .bf16) (x2 : Vec Ideal S256x4096 .bf16) (x3 : Vec Ideal S1x4096 .f32) (x4 : Vec Ideal S256x256 .bf16) (x5 : Vec Ideal S4096x3584 .fp8e4m3) (x6 : Vec Ideal S1x3584 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.1 = twoC (codesOf x4 x0 x3) (codesOf x4 x1 x3) := by
  unfold kernelRun0_A
  dsimp only
  simp (config := { proj := false }) only [kernelRun0_A.sl.HS0_43, kernelRun0_A.sl.cst_127, kernelRun0_A.sl.cst_206, kernelRun0_A.sl.r_10, kernelRun0_A.sl.r_12, kernelRun0_A.sl.r_13, kernelRun0_A.sl.r_15, kernelRun0_A.sl.r_16, kernelRun0_A.sl.r_17, kernelRun0_A.sl.r_18, kernelRun0_A.sl.r_19, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_32, kernelRun0_A.sl.r_34, kernelRun0_A.sl.r_35, kernelRun0_A.sl.r_37, kernelRun0_A.sl.r_39, kernelRun0_A.sl.r_41, kernelRun0_A.sl.r_43, kernelRun0_A.sl.r_44, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_56, kernelRun0_A.sl.r_58, kernelRun0_A.sl.r_59, kernelRun0_A.sl.r_6, kernelRun0_A.sl.r_61, kernelRun0_A.sl.r_63, kernelRun0_A.sl.r_65, kernelRun0_A.sl.r_67, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_8, kernelRun0_A.sl.v1043, kernelRun0_A.sl.v1054, kernelRun0_A.sl.v1065, kernelRun0_A.sl.v1076, kernelRun0_A.sl.v1087, kernelRun0_A.sl.v1098, kernelRun0_A.sl.v1109, kernelRun0_A.sl.v1120, kernelRun0_A.sl.v1131, kernelRun0_A.sl.v1142, kernelRun0_A.sl.v1153, kernelRun0_A.sl.v1164, kernelRun0_A.sl.v1175, kernelRun0_A.sl.v1186, kernelRun0_A.sl.v1197, kernelRun0_A.sl.v1208, kernelRun0_A.sl.v1575, kernelRun0_A.sl.v1586, kernelRun0_A.sl.v1597, kernelRun0_A.sl.v1608, kernelRun0_A.sl.v1619, kernelRun0_A.sl.v1630, kernelRun0_A.sl.v1641, kernelRun0_A.sl.v1652, kernelRun0_A.sl.v1663, kernelRun0_A.sl.v1674, kernelRun0_A.sl.v1685, kernelRun0_A.sl.v1696, kernelRun0_A.sl.v1707, kernelRun0_A.sl.v1718, kernelRun0_A.sl.v1729, kernelRun0_A.sl.v1740, kernelRun0_A.sl.v435, kernelRun0_A.sl.v446, kernelRun0_A.sl.v457, kernelRun0_A.sl.v468, kernelRun0_A.sl.v479, kernelRun0_A.sl.v490, kernelRun0_A.sl.v501, kernelRun0_A.sl.v512, kernelRun0_A.sl.v523, kernelRun0_A.sl.v534, kernelRun0_A.sl.v545, kernelRun0_A.sl.v556, kernelRun0_A.sl.v567, kernelRun0_A.sl.v578, kernelRun0_A.sl.v589, kernelRun0_A.sl.v600, kernelRun0_A.sl.v907, A_h, A_rot0, A_r_1, A_r_2, A_r_4, A_r_7, A_r_9, A_r_11, A_r_14, A_inv0, A_code0, A_scale0, A_codes0, A_all0, A_col0, A_rot1, A_r_30, A_r_31, A_r_33, A_r_36, A_r_38, A_r_40, A_r_42, A_exp1, A_scale1, A_codes1, A_all1, A_col1, A_rot2, A_r_54, A_r_55, A_r_57, A_r_60, A_r_62, A_r_64, A_r_66, A_r_68, read_all]
  try rfl

/-- The scale written. -/
theorem A_L9 (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (arg6 : Memref sig .tc .vmem S4096x3584 .fp8e4m3) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S256x4096 .f32) (harg11 : arg11.IsWhole) (arg12 : Memref sig .tc .vmem S256x4096 .fp8e4m3) (harg12 : arg12.IsWhole) (arg13 : Memref sig .tc .vmem S256x4096 .fp8e4m3) (harg13 : arg13.IsWhole) (arg14 : Memref sig .tc .vmem S256x128 .f32) (harg14 : arg14.IsWhole) (arg15 : Memref sig .tc .vmem S256x128 .f32) (harg15 : arg15.IsWhole) (hc0 : cond0_0 i) (x0 : Vec Ideal S256x4096 .bf16) (x1 : Vec Ideal S256x4096 .bf16) (x2 : Vec Ideal S256x4096 .bf16) (x3 : Vec Ideal S1x4096 .f32) (x4 : Vec Ideal S256x256 .bf16) (x5 : Vec Ideal S4096x3584 .fp8e4m3) (x6 : Vec Ideal S1x3584 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.1 = twoS (col0 (scaleOf x4 x0 x3)) (col0 (scaleOf x4 x1 x3)) := by
  unfold kernelRun0_A
  dsimp only
  simp (config := { proj := false }) only [kernelRun0_A.sl.HS0_43, kernelRun0_A.sl.cst_127, kernelRun0_A.sl.cst_206, kernelRun0_A.sl.r_10, kernelRun0_A.sl.r_12, kernelRun0_A.sl.r_13, kernelRun0_A.sl.r_15, kernelRun0_A.sl.r_16, kernelRun0_A.sl.r_17, kernelRun0_A.sl.r_18, kernelRun0_A.sl.r_19, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_32, kernelRun0_A.sl.r_34, kernelRun0_A.sl.r_35, kernelRun0_A.sl.r_37, kernelRun0_A.sl.r_39, kernelRun0_A.sl.r_41, kernelRun0_A.sl.r_43, kernelRun0_A.sl.r_44, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_56, kernelRun0_A.sl.r_58, kernelRun0_A.sl.r_59, kernelRun0_A.sl.r_6, kernelRun0_A.sl.r_61, kernelRun0_A.sl.r_63, kernelRun0_A.sl.r_65, kernelRun0_A.sl.r_67, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_8, kernelRun0_A.sl.v1043, kernelRun0_A.sl.v1054, kernelRun0_A.sl.v1065, kernelRun0_A.sl.v1076, kernelRun0_A.sl.v1087, kernelRun0_A.sl.v1098, kernelRun0_A.sl.v1109, kernelRun0_A.sl.v1120, kernelRun0_A.sl.v1131, kernelRun0_A.sl.v1142, kernelRun0_A.sl.v1153, kernelRun0_A.sl.v1164, kernelRun0_A.sl.v1175, kernelRun0_A.sl.v1186, kernelRun0_A.sl.v1197, kernelRun0_A.sl.v1208, kernelRun0_A.sl.v1575, kernelRun0_A.sl.v1586, kernelRun0_A.sl.v1597, kernelRun0_A.sl.v1608, kernelRun0_A.sl.v1619, kernelRun0_A.sl.v1630, kernelRun0_A.sl.v1641, kernelRun0_A.sl.v1652, kernelRun0_A.sl.v1663, kernelRun0_A.sl.v1674, kernelRun0_A.sl.v1685, kernelRun0_A.sl.v1696, kernelRun0_A.sl.v1707, kernelRun0_A.sl.v1718, kernelRun0_A.sl.v1729, kernelRun0_A.sl.v1740, kernelRun0_A.sl.v435, kernelRun0_A.sl.v446, kernelRun0_A.sl.v457, kernelRun0_A.sl.v468, kernelRun0_A.sl.v479, kernelRun0_A.sl.v490, kernelRun0_A.sl.v501, kernelRun0_A.sl.v512, kernelRun0_A.sl.v523, kernelRun0_A.sl.v534, kernelRun0_A.sl.v545, kernelRun0_A.sl.v556, kernelRun0_A.sl.v567, kernelRun0_A.sl.v578, kernelRun0_A.sl.v589, kernelRun0_A.sl.v600, kernelRun0_A.sl.v907, A_h, A_rot0, A_r_1, A_r_2, A_r_4, A_r_7, A_r_9, A_r_11, A_r_14, A_inv0, A_code0, A_scale0, A_codes0, A_all0, A_col0, A_rot1, A_r_30, A_r_31, A_r_33, A_r_36, A_r_38, A_r_40, A_r_42, A_exp1, A_scale1, A_codes1, A_all1, A_col1, A_rot2, A_r_54, A_r_55, A_r_57, A_r_60, A_r_62, A_r_64, A_r_66, A_r_68, read_col0]
  try rfl

/-- The tiles of y written. -/
theorem A_L7 (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (arg6 : Memref sig .tc .vmem S4096x3584 .fp8e4m3) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S256x4096 .f32) (harg11 : arg11.IsWhole) (arg12 : Memref sig .tc .vmem S256x4096 .fp8e4m3) (harg12 : arg12.IsWhole) (arg13 : Memref sig .tc .vmem S256x4096 .fp8e4m3) (harg13 : arg13.IsWhole) (arg14 : Memref sig .tc .vmem S256x128 .f32) (harg14 : arg14.IsWhole) (arg15 : Memref sig .tc .vmem S256x128 .f32) (harg15 : arg15.IsWhole) (hc0 : cond0_0 i) (x0 : Vec Ideal S256x4096 .bf16) (x1 : Vec Ideal S256x4096 .bf16) (x2 : Vec Ideal S256x4096 .bf16) (x3 : Vec Ideal S1x4096 .f32) (x4 : Vec Ideal S256x256 .bf16) (x5 : Vec Ideal S4096x3584 .fp8e4m3) (x6 : Vec Ideal S1x3584 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).1 = tiles (tileOf (codesOf x4 x0 x3) (scaleOf x4 x0 x3) x5 x6) (tileOf (codesOf x4 x1 x3) (scaleOf x4 x1 x3) x5 x6) := by
  unfold kernelRun0_A
  dsimp only
  simp (config := { proj := false }) only [kernelRun0_A.sl.HS0_43, kernelRun0_A.sl.cst_127, kernelRun0_A.sl.cst_206, kernelRun0_A.sl.r_10, kernelRun0_A.sl.r_12, kernelRun0_A.sl.r_13, kernelRun0_A.sl.r_15, kernelRun0_A.sl.r_16, kernelRun0_A.sl.r_17, kernelRun0_A.sl.r_18, kernelRun0_A.sl.r_19, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_32, kernelRun0_A.sl.r_34, kernelRun0_A.sl.r_35, kernelRun0_A.sl.r_37, kernelRun0_A.sl.r_39, kernelRun0_A.sl.r_41, kernelRun0_A.sl.r_43, kernelRun0_A.sl.r_44, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_56, kernelRun0_A.sl.r_58, kernelRun0_A.sl.r_59, kernelRun0_A.sl.r_6, kernelRun0_A.sl.r_61, kernelRun0_A.sl.r_63, kernelRun0_A.sl.r_65, kernelRun0_A.sl.r_67, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_8, kernelRun0_A.sl.v1043, kernelRun0_A.sl.v1054, kernelRun0_A.sl.v1065, kernelRun0_A.sl.v1076, kernelRun0_A.sl.v1087, kernelRun0_A.sl.v1098, kernelRun0_A.sl.v1109, kernelRun0_A.sl.v1120, kernelRun0_A.sl.v1131, kernelRun0_A.sl.v1142, kernelRun0_A.sl.v1153, kernelRun0_A.sl.v1164, kernelRun0_A.sl.v1175, kernelRun0_A.sl.v1186, kernelRun0_A.sl.v1197, kernelRun0_A.sl.v1208, kernelRun0_A.sl.v1575, kernelRun0_A.sl.v1586, kernelRun0_A.sl.v1597, kernelRun0_A.sl.v1608, kernelRun0_A.sl.v1619, kernelRun0_A.sl.v1630, kernelRun0_A.sl.v1641, kernelRun0_A.sl.v1652, kernelRun0_A.sl.v1663, kernelRun0_A.sl.v1674, kernelRun0_A.sl.v1685, kernelRun0_A.sl.v1696, kernelRun0_A.sl.v1707, kernelRun0_A.sl.v1718, kernelRun0_A.sl.v1729, kernelRun0_A.sl.v1740, kernelRun0_A.sl.v435, kernelRun0_A.sl.v446, kernelRun0_A.sl.v457, kernelRun0_A.sl.v468, kernelRun0_A.sl.v479, kernelRun0_A.sl.v490, kernelRun0_A.sl.v501, kernelRun0_A.sl.v512, kernelRun0_A.sl.v523, kernelRun0_A.sl.v534, kernelRun0_A.sl.v545, kernelRun0_A.sl.v556, kernelRun0_A.sl.v567, kernelRun0_A.sl.v578, kernelRun0_A.sl.v589, kernelRun0_A.sl.v600, kernelRun0_A.sl.v907, A_h, A_rot0, A_r_1, A_r_2, A_r_4, A_r_7, A_r_9, A_r_11, A_r_14, A_inv0, A_code0, A_scale0, A_codes0, A_all0, A_col0, A_rot1, A_r_30, A_r_31, A_r_33, A_r_36, A_r_38, A_r_40, A_r_42, A_exp1, A_scale1, A_codes1, A_all1, A_col1, A_rot2, A_r_54, A_r_55, A_r_57, A_r_60, A_r_62, A_r_64, A_r_66, A_r_68, read_all, read_col0, read_cutW (k := 0) (o := 0) (ho := rfl), read_cutW (k := 1) (o := 512) (ho := rfl), read_cutW (k := 2) (o := 1024) (ho := rfl), read_cutW (k := 3) (o := 1536) (ho := rfl), read_cutW (k := 4) (o := 2048) (ho := rfl), read_cutW (k := 5) (o := 2560) (ho := rfl), read_cutW (k := 6) (o := 3072) (ho := rfl), read_cutS (k := 0) (o := 0) (ho := rfl), read_cutS (k := 1) (o := 512) (ho := rfl), read_cutS (k := 2) (o := 1024) (ho := rfl), read_cutS (k := 3) (o := 1536) (ho := rfl), read_cutS (k := 4) (o := 2048) (ho := rfl), read_cutS (k := 5) (o := 2560) (ho := rfl), read_cutS (k := 6) (o := 3072) (ho := rfl)]
  try rfl

/-- The codes left for the next point. -/
theorem A_next_codes (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (arg6 : Memref sig .tc .vmem S4096x3584 .fp8e4m3) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S256x4096 .f32) (harg11 : arg11.IsWhole) (arg12 : Memref sig .tc .vmem S256x4096 .fp8e4m3) (harg12 : arg12.IsWhole) (arg13 : Memref sig .tc .vmem S256x4096 .fp8e4m3) (harg13 : arg13.IsWhole) (arg14 : Memref sig .tc .vmem S256x128 .f32) (harg14 : arg14.IsWhole) (arg15 : Memref sig .tc .vmem S256x128 .f32) (harg15 : arg15.IsWhole) (hc0 : cond0_0 i) (x0 : Vec Ideal S256x4096 .bf16) (x1 : Vec Ideal S256x4096 .bf16) (x2 : Vec Ideal S256x4096 .bf16) (x3 : Vec Ideal S1x4096 .f32) (x4 : Vec Ideal S256x256 .bf16) (x5 : Vec Ideal S4096x3584 .fp8e4m3) (x6 : Vec Ideal S1x3584 .f32) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = codesOf x4 x2 x3 := by
  unfold sout0_A_1
  rw [A_LS1, read_cols_over]
  rfl

/-- The scale left for the next point. -/
theorem A_next_scale (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (arg6 : Memref sig .tc .vmem S4096x3584 .fp8e4m3) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S256x4096 .f32) (harg11 : arg11.IsWhole) (arg12 : Memref sig .tc .vmem S256x4096 .fp8e4m3) (harg12 : arg12.IsWhole) (arg13 : Memref sig .tc .vmem S256x4096 .fp8e4m3) (harg13 : arg13.IsWhole) (arg14 : Memref sig .tc .vmem S256x128 .f32) (harg14 : arg14.IsWhole) (arg15 : Memref sig .tc .vmem S256x128 .f32) (harg15 : arg15.IsWhole) (hc0 : cond0_0 i) (x0 : Vec Ideal S256x4096 .bf16) (x1 : Vec Ideal S256x4096 .bf16) (x2 : Vec Ideal S256x4096 .bf16) (x3 : Vec Ideal S1x4096 .f32) (x4 : Vec Ideal S256x256 .bf16) (x5 : Vec Ideal S4096x3584 .fp8e4m3) (x6 : Vec Ideal S1x3584 .f32) :
    sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = scaleOf x4 x2 x3 := by
  unfold sout0_A_3
  rw [A_LS3, read_whole_over]

/-- The codes the point writes. -/
theorem A_codes (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (arg6 : Memref sig .tc .vmem S4096x3584 .fp8e4m3) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S256x4096 .f32) (harg11 : arg11.IsWhole) (arg12 : Memref sig .tc .vmem S256x4096 .fp8e4m3) (harg12 : arg12.IsWhole) (arg13 : Memref sig .tc .vmem S256x4096 .fp8e4m3) (harg13 : arg13.IsWhole) (arg14 : Memref sig .tc .vmem S256x128 .f32) (harg14 : arg14.IsWhole) (arg15 : Memref sig .tc .vmem S256x128 .f32) (harg15 : arg15.IsWhole) (hc0 : cond0_0 i) (x0 : Vec Ideal S256x4096 .bf16) (x1 : Vec Ideal S256x4096 .bf16) (x2 : Vec Ideal S256x4096 .bf16) (x3 : Vec Ideal S1x4096 .f32) (x4 : Vec Ideal S256x256 .bf16) (x5 : Vec Ideal S4096x3584 .fp8e4m3) (x6 : Vec Ideal S1x3584 .f32) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = stackC (codesOf x4 x0 x3) (codesOf x4 x1 x3) := by
  unfold out0_A_8
  rw [A_L8, read_twoC]

/-- The scale the point writes. -/
theorem A_scale (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (arg6 : Memref sig .tc .vmem S4096x3584 .fp8e4m3) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S256x4096 .f32) (harg11 : arg11.IsWhole) (arg12 : Memref sig .tc .vmem S256x4096 .fp8e4m3) (harg12 : arg12.IsWhole) (arg13 : Memref sig .tc .vmem S256x4096 .fp8e4m3) (harg13 : arg13.IsWhole) (arg14 : Memref sig .tc .vmem S256x128 .f32) (harg14 : arg14.IsWhole) (arg15 : Memref sig .tc .vmem S256x128 .f32) (harg15 : arg15.IsWhole) (hc0 : cond0_0 i) (x0 : Vec Ideal S256x4096 .bf16) (x1 : Vec Ideal S256x4096 .bf16) (x2 : Vec Ideal S256x4096 .bf16) (x3 : Vec Ideal S1x4096 .f32) (x4 : Vec Ideal S256x256 .bf16) (x5 : Vec Ideal S4096x3584 .fp8e4m3) (x6 : Vec Ideal S1x3584 .f32) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = stackS (col0 (scaleOf x4 x0 x3)) (col0 (scaleOf x4 x1 x3)) := by
  unfold out0_A_9
  rw [A_L9, read_twoS]

/-- The rows of y the point writes. -/
theorem A_y (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (arg6 : Memref sig .tc .vmem S4096x3584 .fp8e4m3) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S256x4096 .f32) (harg11 : arg11.IsWhole) (arg12 : Memref sig .tc .vmem S256x4096 .fp8e4m3) (harg12 : arg12.IsWhole) (arg13 : Memref sig .tc .vmem S256x4096 .fp8e4m3) (harg13 : arg13.IsWhole) (arg14 : Memref sig .tc .vmem S256x128 .f32) (harg14 : arg14.IsWhole) (arg15 : Memref sig .tc .vmem S256x128 .f32) (harg15 : arg15.IsWhole) (hc0 : cond0_0 i) (x0 : Vec Ideal S256x4096 .bf16) (x1 : Vec Ideal S256x4096 .bf16) (x2 : Vec Ideal S256x4096 .bf16) (x3 : Vec Ideal S1x4096 .f32) (x4 : Vec Ideal S256x256 .bf16) (x5 : Vec Ideal S4096x3584 .fp8e4m3) (x6 : Vec Ideal S1x3584 .f32) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = mosaic (tileOf (codesOf x4 x0 x3) (scaleOf x4 x0 x3) x5 x6) (tileOf (codesOf x4 x1 x3) (scaleOf x4 x1 x3) x5 x6) := by
  unfold out0_A_7
  rw [A_L7, read_tiles]

end Cert.Quarot

end
-- ==== Proof.StepB.lean ====
/-
  A POINT AFTER THE FIRST: WHAT IT WRITES.

  `x1`, `x2` are its two blocks of rows, `x3` the signs, `x4` the matrix, `x5` and `x6` the weights, `xs1` and `xs3` the codes and the
  scale the point before left in the carried scratch.
-/
module

public import proofs.«01_k».proof.Proof.Tiles

@[expose] public section

set_option maxHeartbeats 2000000

noncomputable section

namespace Cert.Quarot

open Idealize.ShloMosaic Cert.KernelIdeal Cert.KernelIdeal.Gen

/-- The matrix. -/
theorem B_h (c : Dev nD) (arg5 : Memref sig .tc .vmem S256x256 .bf16) (harg5 : arg5.IsWhole) (x4 : Vec Ideal S256x256 .bf16) :
    (kernelRun0_B.sl.r_5 (F := Ideal) c arg5 harg5 x4) = x4 := by
  simp (config := { proj := false }) only [kernelRun0_B.sl.r_5, read_h]
  try rfl

/-- The pieces of the first rotate: the chunks of the block in window 1. -/
theorem B_rot1 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (x1 : Vec Ideal S256x4096 .bf16) (x3 : Vec Ideal S1x4096 .f32) (x4 : Vec Ideal S256x256 .bf16) :
    (kernelRun0_B.sl.HS0_16 (F := Ideal) c arg2 harg2 arg4 harg4 arg5 harg5 x1 x3 x4) = cols (rotC x4 x1 x3) := by
  simp (config := { proj := false }) only [kernelRun0_B.sl.HS0_16, kernelRun0_B.sl.r_18, kernelRun0_B.sl.r_16, kernelRun0_B.sl.r_14, kernelRun0_B.sl.cst_127, kernelRun0_B.sl.r_11, kernelRun0_B.sl.r_12, kernelRun0_B.sl.r_9, B_h, read_cut (k := 15) (o := 3840) (ho := rfl), read_cut1 (k := 15) (o := 3840) (ho := rfl), read_cut (k := 14) (o := 3584) (ho := rfl), read_cut1 (k := 14) (o := 3584) (ho := rfl), read_cut (k := 12) (o := 3072) (ho := rfl), read_cut1 (k := 12) (o := 3072) (ho := rfl), read_cut (k := 10) (o := 2560) (ho := rfl), read_cut1 (k := 10) (o := 2560) (ho := rfl), read_cut (k := 8) (o := 2048) (ho := rfl), read_cut1 (k := 8) (o := 2048) (ho := rfl), read_cut (k := 6) (o := 1536) (ho := rfl), read_cut1 (k := 6) (o := 1536) (ho := rfl), read_cut1 (k := 5) (o := 1280) (ho := rfl), read_cut (k := 4) (o := 1024) (ho := rfl), read_cut1 (k := 4) (o := 1024) (ho := rfl), read_cut (k := 3) (o := 768) (ho := rfl), read_cut1 (k := 3) (o := 768) (ho := rfl), read_cut (k := 2) (o := 512) (ho := rfl), read_cut1 (k := 2) (o := 512) (ho := rfl), read_cut (k := 1) (o := 256) (ho := rfl), read_cut1 (k := 1) (o := 256) (ho := rfl), read_h, read_cut (k := 0) (o := 0) (ho := rfl), read_cut1 (k := 0) (o := 0) (ho := rfl), read_cut (k := 13) (o := 3328) (ho := rfl), read_cut1 (k := 13) (o := 3328) (ho := rfl), read_cut (k := 11) (o := 2816) (ho := rfl), read_cut1 (k := 11) (o := 2816) (ho := rfl), read_cut (k := 9) (o := 2304) (ho := rfl), read_cut1 (k := 9) (o := 2304) (ho := rfl), read_cut (k := 7) (o := 1792) (ho := rfl), read_cut1 (k := 7) (o := 1792) (ho := rfl), read_cut (k := 5) (o := 1280) (ho := rfl)]
  rfl

/-- The magnitudes of the first 3 chunks. -/
theorem B_r_7 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (x1 : Vec Ideal S256x4096 .bf16) (x3 : Vec Ideal S1x4096 .f32) (x4 : Vec Ideal S256x256 .bf16) :
    (kernelRun0_B.sl.r_7 (F := Ideal) c arg2 harg2 arg4 harg4 arg5 harg5 x1 x3 x4) = (maximumf (maximumf (half (rawC x4 x1 x3 0)) (half (rawC x4 x1 x3 1))) (half (rawC x4 x1 x3 2))) := by
  simp (config := { proj := false }) only [kernelRun0_B.sl.r_7, kernelRun0_B.sl.r_6, B_h, read_cut (k := 1) (o := 256) (ho := rfl), read_cut1 (k := 1) (o := 256) (ho := rfl), read_cut (k := 2) (o := 512) (ho := rfl), read_cut1 (k := 2) (o := 512) (ho := rfl), read_h, read_cut (k := 0) (o := 0) (ho := rfl), read_cut1 (k := 0) (o := 0) (ho := rfl)]
  rfl

/-- The magnitudes of the first 5 chunks. -/
theorem B_r_8 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (x1 : Vec Ideal S256x4096 .bf16) (x3 : Vec Ideal S1x4096 .f32) (x4 : Vec Ideal S256x256 .bf16) :
    (kernelRun0_B.sl.r_8 (F := Ideal) c arg2 harg2 arg4 harg4 arg5 harg5 x1 x3 x4) = (maximumf (maximumf (maximumf (maximumf (half (rawC x4 x1 x3 0)) (half (rawC x4 x1 x3 1))) (half (rawC x4 x1 x3 2))) (half (rawC x4 x1 x3 3))) (half (rawC x4 x1 x3 4))) := by
  simp (config := { proj := false }) only [kernelRun0_B.sl.r_8, B_h, B_r_7, read_cut (k := 3) (o := 768) (ho := rfl), read_cut1 (k := 3) (o := 768) (ho := rfl), read_cut (k := 4) (o := 1024) (ho := rfl), read_cut1 (k := 4) (o := 1024) (ho := rfl)]
  rfl

/-- The magnitudes of the first 7 chunks. -/
theorem B_r_10 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (x1 : Vec Ideal S256x4096 .bf16) (x3 : Vec Ideal S1x4096 .f32) (x4 : Vec Ideal S256x256 .bf16) :
    (kernelRun0_B.sl.r_10 (F := Ideal) c arg2 harg2 arg4 harg4 arg5 harg5 x1 x3 x4) = (maximumf (maximumf (maximumf (maximumf (maximumf (maximumf (half (rawC x4 x1 x3 0)) (half (rawC x4 x1 x3 1))) (half (rawC x4 x1 x3 2))) (half (rawC x4 x1 x3 3))) (half (rawC x4 x1 x3 4))) (half (rawC x4 x1 x3 5))) (half (rawC x4 x1 x3 6))) := by
  simp (config := { proj := false }) only [kernelRun0_B.sl.r_10, kernelRun0_B.sl.r_9, B_h, B_r_8, read_cut1 (k := 5) (o := 1280) (ho := rfl), read_cut (k := 6) (o := 1536) (ho := rfl), read_cut1 (k := 6) (o := 1536) (ho := rfl), read_cut (k := 5) (o := 1280) (ho := rfl)]
  rfl

/-- The magnitudes of the first 9 chunks. -/
theorem B_r_13 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (x1 : Vec Ideal S256x4096 .bf16) (x3 : Vec Ideal S1x4096 .f32) (x4 : Vec Ideal S256x256 .bf16) :
    (kernelRun0_B.sl.r_13 (F := Ideal) c arg2 harg2 arg4 harg4 arg5 harg5 x1 x3 x4) = (maximumf (maximumf (maximumf (maximumf (maximumf (maximumf (maximumf (maximumf (half (rawC x4 x1 x3 0)) (half (rawC x4 x1 x3 1))) (half (rawC x4 x1 x3 2))) (half (rawC x4 x1 x3 3))) (half (rawC x4 x1 x3 4))) (half (rawC x4 x1 x3 5))) (half (rawC x4 x1 x3 6))) (half (rawC x4 x1 x3 7))) (half (rawC x4 x1 x3 8))) := by
  simp (config := { proj := false }) only [kernelRun0_B.sl.r_13, kernelRun0_B.sl.r_11, kernelRun0_B.sl.r_12, B_h, B_r_10, read_cut (k := 8) (o := 2048) (ho := rfl), read_cut1 (k := 8) (o := 2048) (ho := rfl), read_cut (k := 7) (o := 1792) (ho := rfl), read_cut1 (k := 7) (o := 1792) (ho := rfl)]
  rfl

/-- The magnitudes of the first 11 chunks. -/
theorem B_r_15 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (x1 : Vec Ideal S256x4096 .bf16) (x3 : Vec Ideal S1x4096 .f32) (x4 : Vec Ideal S256x256 .bf16) :
    (kernelRun0_B.sl.r_15 (F := Ideal) c arg2 harg2 arg4 harg4 arg5 harg5 x1 x3 x4) = (maximumf (maximumf (maximumf (maximumf (maximumf (maximumf (maximumf (maximumf (maximumf (maximumf (half (rawC x4 x1 x3 0)) (half (rawC x4 x1 x3 1))) (half (rawC x4 x1 x3 2))) (half (rawC x4 x1 x3 3))) (half (rawC x4 x1 x3 4))) (half (rawC x4 x1 x3 5))) (half (rawC x4 x1 x3 6))) (half (rawC x4 x1 x3 7))) (half (rawC x4 x1 x3 8))) (half (rawC x4 x1 x3 9))) (half (rawC x4 x1 x3 10))) := by
  simp (config := { proj := false }) only [kernelRun0_B.sl.r_15, kernelRun0_B.sl.r_14, kernelRun0_B.sl.cst_127, B_h, B_r_13, read_cut (k := 10) (o := 2560) (ho := rfl), read_cut1 (k := 10) (o := 2560) (ho := rfl), read_cut (k := 9) (o := 2304) (ho := rfl), read_cut1 (k := 9) (o := 2304) (ho := rfl)]
  rfl

/-- The magnitudes of the first 13 chunks. -/
theorem B_r_17 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (x1 : Vec Ideal S256x4096 .bf16) (x3 : Vec Ideal S1x4096 .f32) (x4 : Vec Ideal S256x256 .bf16) :
    (kernelRun0_B.sl.r_17 (F := Ideal) c arg2 harg2 arg4 harg4 arg5 harg5 x1 x3 x4) = (maximumf (maximumf (maximumf (maximumf (maximumf (maximumf (maximumf (maximumf (maximumf (maximumf (maximumf (maximumf (half (rawC x4 x1 x3 0)) (half (rawC x4 x1 x3 1))) (half (rawC x4 x1 x3 2))) (half (rawC x4 x1 x3 3))) (half (rawC x4 x1 x3 4))) (half (rawC x4 x1 x3 5))) (half (rawC x4 x1 x3 6))) (half (rawC x4 x1 x3 7))) (half (rawC x4 x1 x3 8))) (half (rawC x4 x1 x3 9))) (half (rawC x4 x1 x3 10))) (half (rawC x4 x1 x3 11))) (half (rawC x4 x1 x3 12))) := by
  simp (config := { proj := false }) only [kernelRun0_B.sl.r_17, kernelRun0_B.sl.r_16, B_h, B_r_15, read_cut (k := 12) (o := 3072) (ho := rfl), read_cut1 (k := 12) (o := 3072) (ho := rfl), read_cut (k := 11) (o := 2816) (ho := rfl), read_cut1 (k := 11) (o := 2816) (ho := rfl)]
  rfl

/-- The magnitudes of the first 15 chunks. -/
theorem B_r_19 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (x1 : Vec Ideal S256x4096 .bf16) (x3 : Vec Ideal S1x4096 .f32) (x4 : Vec Ideal S256x256 .bf16) :
    (kernelRun0_B.sl.r_19 (F := Ideal) c arg2 harg2 arg4 harg4 arg5 harg5 x1 x3 x4) = (maximumf (maximumf (maximumf (maximumf (maximumf (maximumf (maximumf (maximumf (maximumf (maximumf (maximumf (maximumf (maximumf (maximumf (half (rawC x4 x1 x3 0)) (half (rawC x4 x1 x3 1))) (half (rawC x4 x1 x3 2))) (half (rawC x4 x1 x3 3))) (half (rawC x4 x1 x3 4))) (half (rawC x4 x1 x3 5))) (half (rawC x4 x1 x3 6))) (half (rawC x4 x1 x3 7))) (half (rawC x4 x1 x3 8))) (half (rawC x4 x1 x3 9))) (half (rawC x4 x1 x3 10))) (half (rawC x4 x1 x3 11))) (half (rawC x4 x1 x3 12))) (half (rawC x4 x1 x3 13))) (half (rawC x4 x1 x3 14))) := by
  simp (config := { proj := false }) only [kernelRun0_B.sl.r_19, kernelRun0_B.sl.r_18, B_h, B_r_17, read_cut (k := 14) (o := 3584) (ho := rfl), read_cut1 (k := 14) (o := 3584) (ho := rfl), read_cut (k := 13) (o := 3328) (ho := rfl), read_cut1 (k := 13) (o := 3328) (ho := rfl)]
  rfl

/-- The first rotate's exponents. -/
theorem B_exp1 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (x1 : Vec Ideal S256x4096 .bf16) (x3 : Vec Ideal S1x4096 .f32) (x4 : Vec Ideal S256x256 .bf16) :
    (kernelRun0_B.sl.r_22 (F := Ideal) c arg2 harg2 arg4 harg4 arg5 harg5 x1 x3 x4) = k0_pay206 (F := Ideal) (amaxOf x4 x1 x3) := by
  simp (config := { proj := false }) only [kernelRun0_B.sl.r_22, kernelRun0_B.sl.r_20, kernelRun0_B.sl.r_21, B_r_19, B_h, read_cut (k := 15) (o := 3840) (ho := rfl), read_cut1 (k := 15) (o := 3840) (ho := rfl), exp_mid]
  rfl

/-- The first rotate's scale. -/
theorem B_scale1 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (x1 : Vec Ideal S256x4096 .bf16) (x3 : Vec Ideal S1x4096 .f32) (x4 : Vec Ideal S256x256 .bf16) :
    (kernelRun0_B.sl.HS4_1 (F := Ideal) c arg2 harg2 arg4 harg4 arg5 harg5 x1 x3 x4) = [⟨Rect.unit ![0, 0] S256x128.size inb_S256x128_S256x128_0_0, scaleOf x4 x1 x3⟩] := by
  simp (config := { proj := false }) only [kernelRun0_B.sl.HS4_1, kernelRun0_B.sl.r_23, kernelRun0_B.sl.r_20, kernelRun0_B.sl.r_21, B_r_19, B_h, read_cut (k := 15) (o := 3840) (ho := rfl), read_cut1 (k := 15) (o := 3840) (ho := rfl), scale_mid]
  rfl

/-- The pieces of the first rotate's codes. -/
theorem B_codes1 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (arg11 : Memref sig .tc .vmem S256x4096 .f32) (x1 : Vec Ideal S256x4096 .bf16) (x3 : Vec Ideal S1x4096 .f32) (x4 : Vec Ideal S256x256 .bf16) :
    (kernelRun0_B.sl.HS2_16 (F := Ideal) c arg2 harg2 arg4 harg4 arg5 harg5 arg11 x1 x3 x4) = cols (codeC x4 x1 x3) := by
  simp (config := { proj := false }) only [kernelRun0_B.sl.HS2_16, kernelRun0_B.sl.r_29, kernelRun0_B.sl.r_25, kernelRun0_B.sl.v600, kernelRun0_B.sl.v589, kernelRun0_B.sl.v578, kernelRun0_B.sl.r_28, kernelRun0_B.sl.v567, kernelRun0_B.sl.cst_206, kernelRun0_B.sl.v556, kernelRun0_B.sl.v545, kernelRun0_B.sl.v534, kernelRun0_B.sl.v523, kernelRun0_B.sl.v512, kernelRun0_B.sl.v501, kernelRun0_B.sl.r_27, kernelRun0_B.sl.v490, kernelRun0_B.sl.v479, kernelRun0_B.sl.v468, kernelRun0_B.sl.r_26, kernelRun0_B.sl.v457, kernelRun0_B.sl.v446, kernelRun0_B.sl.v435, B_exp1, B_rot1, cov_cut_nil (k := 15) (o := 3840) (ho := rfl), cov_cut_nil (k := 14) (o := 3584) (ho := rfl), cov_cut_nil (k := 13) (o := 3328) (ho := rfl), cov_cut_nil (k := 12) (o := 3072) (ho := rfl), cov_cut_nil (k := 11) (o := 2816) (ho := rfl), cov_cut_nil (k := 10) (o := 2560) (ho := rfl), cov_cut_nil (k := 9) (o := 2304) (ho := rfl), cov_cut_nil (k := 8) (o := 2048) (ho := rfl), cov_cut_nil (k := 7) (o := 1792) (ho := rfl), cov_cut_nil (k := 6) (o := 1536) (ho := rfl), cov_cut_nil (k := 5) (o := 1280) (ho := rfl), cov_cut_nil (k := 4) (o := 1024) (ho := rfl), cov_cut_nil (k := 3) (o := 768) (ho := rfl), cov_cut_nil (k := 2) (o := 512) (ho := rfl), cov_cut_nil (k := 1) (o := 256) (ho := rfl), cov_cut_nil (k := 0) (o := 0) (ho := rfl)]
  rfl

/-- The first rotate's codes. -/
theorem B_all1 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (arg11 : Memref sig .tc .vmem S256x4096 .f32) (arg13 : Memref sig .tc .vmem S256x4096 .fp8e4m3) (x1 : Vec Ideal S256x4096 .bf16) (x3 : Vec Ideal S1x4096 .f32) (x4 : Vec Ideal S256x256 .bf16) :
    (kernelRun0_B.sl.v611 (F := Ideal) c arg2 harg2 arg4 harg4 arg5 harg5 arg11 arg13 x1 x3 x4) = codesOf x4 x1 x3 := by
  simp (config := { proj := false }) only [kernelRun0_B.sl.v611, B_codes1, cov_all_nil]
  rfl

/-- The first rotate's scale, one column of it. -/
theorem B_col1 (c : Dev nD) (arg2 : Memref sig .tc .vmem S256x4096 .bf16) (harg2 : arg2.IsWhole) (arg4 : Memref sig .tc .vmem S1x4096 .f32) (harg4 : arg4.IsWhole) (arg5 : Memref sig .tc .vmem S256x256 .bf16) (harg5 : arg5.IsWhole) (arg15 : Memref sig .tc .vmem S256x128 .f32) (x1 : Vec Ideal S256x4096 .bf16) (x3 : Vec Ideal S1x4096 .f32) (x4 : Vec Ideal S256x256 .bf16) :
    (kernelRun0_B.sl.v612 (F := Ideal) c arg2 harg2 arg4 harg4 arg5 harg5 arg15 x1 x3 x4) = col0 (scaleOf x4 x1 x3) := by
  simp (config := { proj := false }) only [kernelRun0_B.sl.v612, B_scale1, cov_col0]
  try rfl

/-- The pieces of the second rotate, on top of the first. -/
theorem B_rot2 (c : Dev nD) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (x1 : Vec Ideal S256x4096 .bf16) (x2 : Vec Ideal S256x4096 .bf16) (x3 : Vec Ideal S1x4096 .f32) (x4 : Vec Ideal S256x256 .bf16) :
    (kernelRun0_B.sl.HS0_32 (F := Ideal) c arg2 harg2 arg3 harg3 arg4 harg4 arg5 harg5 x1 x2 x3 x4) = cols (rotC x4 x2 x3) ++ cols (rotC x4 x1 x3) := by
  simp (config := { proj := false }) only [kernelRun0_B.sl.HS0_32, kernelRun0_B.sl.r_42, kernelRun0_B.sl.HS0_27, kernelRun0_B.sl.r_40, kernelRun0_B.sl.r_38, kernelRun0_B.sl.r_35, kernelRun0_B.sl.r_36, kernelRun0_B.sl.r_33, B_h, B_rot1, read_cut (k := 15) (o := 3840) (ho := rfl), read_cut1 (k := 15) (o := 3840) (ho := rfl), read_cut (k := 14) (o := 3584) (ho := rfl), read_cut1 (k := 14) (o := 3584) (ho := rfl), read_cut (k := 13) (o := 3328) (ho := rfl), read_cut1 (k := 13) (o := 3328) (ho := rfl), read_cut (k := 12) (o := 3072) (ho := rfl), read_cut1 (k := 12) (o := 3072) (ho := rfl), read_cut (k := 11) (o := 2816) (ho := rfl), read_cut1 (k := 11) (o := 2816) (ho := rfl), read_cut (k := 10) (o := 2560) (ho := rfl), read_cut1 (k := 10) (o := 2560) (ho := rfl), read_cut (k := 8) (o := 2048) (ho := rfl), read_cut1 (k := 8) (o := 2048) (ho := rfl), read_cut (k := 6) (o := 1536) (ho := rfl), read_cut1 (k := 6) (o := 1536) (ho := rfl), read_cut (k := 4) (o := 1024) (ho := rfl), read_cut1 (k := 4) (o := 1024) (ho := rfl), read_cut1 (k := 3) (o := 768) (ho := rfl), read_cut (k := 2) (o := 512) (ho := rfl), read_cut1 (k := 2) (o := 512) (ho := rfl), read_cut (k := 1) (o := 256) (ho := rfl), read_cut1 (k := 1) (o := 256) (ho := rfl), read_h, read_cut (k := 0) (o := 0) (ho := rfl), read_cut1 (k := 0) (o := 0) (ho := rfl), read_cut (k := 9) (o := 2304) (ho := rfl), read_cut1 (k := 9) (o := 2304) (ho := rfl), read_cut (k := 7) (o := 1792) (ho := rfl), read_cut1 (k := 7) (o := 1792) (ho := rfl), read_cut (k := 5) (o := 1280) (ho := rfl), read_cut1 (k := 5) (o := 1280) (ho := rfl), read_cut (k := 3) (o := 768) (ho := rfl)]
  rfl

/-- The magnitudes of the first 1 chunks. -/
theorem B_r_31 (c : Dev nD) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (x2 : Vec Ideal S256x4096 .bf16) (x3 : Vec Ideal S1x4096 .f32) (x4 : Vec Ideal S256x256 .bf16) :
    (kernelRun0_B.sl.r_31 (F := Ideal) c arg3 harg3 arg4 harg4 arg5 harg5 x2 x3 x4) = half (rawC x4 x2 x3 0) := by
  simp (config := { proj := false }) only [kernelRun0_B.sl.r_31, read_h, read_cut (k := 0) (o := 0) (ho := rfl), read_cut1 (k := 0) (o := 0) (ho := rfl)]
  rfl

/-- The magnitudes of the first 3 chunks. -/
theorem B_r_32 (c : Dev nD) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (x2 : Vec Ideal S256x4096 .bf16) (x3 : Vec Ideal S1x4096 .f32) (x4 : Vec Ideal S256x256 .bf16) :
    (kernelRun0_B.sl.r_32 (F := Ideal) c arg3 harg3 arg4 harg4 arg5 harg5 x2 x3 x4) = (maximumf (maximumf (half (rawC x4 x2 x3 0)) (half (rawC x4 x2 x3 1))) (half (rawC x4 x2 x3 2))) := by
  simp (config := { proj := false }) only [kernelRun0_B.sl.r_32, B_h, B_r_31, read_cut (k := 1) (o := 256) (ho := rfl), read_cut1 (k := 1) (o := 256) (ho := rfl), read_cut (k := 2) (o := 512) (ho := rfl), read_cut1 (k := 2) (o := 512) (ho := rfl)]
  rfl

/-- The magnitudes of the first 5 chunks. -/
theorem B_r_34 (c : Dev nD) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (x2 : Vec Ideal S256x4096 .bf16) (x3 : Vec Ideal S1x4096 .f32) (x4 : Vec Ideal S256x256 .bf16) :
    (kernelRun0_B.sl.r_34 (F := Ideal) c arg3 harg3 arg4 harg4 arg5 harg5 x2 x3 x4) = (maximumf (maximumf (maximumf (maximumf (half (rawC x4 x2 x3 0)) (half (rawC x4 x2 x3 1))) (half (rawC x4 x2 x3 2))) (half (rawC x4 x2 x3 3))) (half (rawC x4 x2 x3 4))) := by
  simp (config := { proj := false }) only [kernelRun0_B.sl.r_34, kernelRun0_B.sl.r_33, B_h, B_r_32, read_cut1 (k := 3) (o := 768) (ho := rfl), read_cut (k := 4) (o := 1024) (ho := rfl), read_cut1 (k := 4) (o := 1024) (ho := rfl), read_cut (k := 3) (o := 768) (ho := rfl)]
  rfl

/-- The magnitudes of the first 7 chunks. -/
theorem B_r_37 (c : Dev nD) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (x2 : Vec Ideal S256x4096 .bf16) (x3 : Vec Ideal S1x4096 .f32) (x4 : Vec Ideal S256x256 .bf16) :
    (kernelRun0_B.sl.r_37 (F := Ideal) c arg3 harg3 arg4 harg4 arg5 harg5 x2 x3 x4) = (maximumf (maximumf (maximumf (maximumf (maximumf (maximumf (half (rawC x4 x2 x3 0)) (half (rawC x4 x2 x3 1))) (half (rawC x4 x2 x3 2))) (half (rawC x4 x2 x3 3))) (half (rawC x4 x2 x3 4))) (half (rawC x4 x2 x3 5))) (half (rawC x4 x2 x3 6))) := by
  simp (config := { proj := false }) only [kernelRun0_B.sl.r_37, kernelRun0_B.sl.r_35, kernelRun0_B.sl.r_36, B_h, B_r_34, read_cut (k := 6) (o := 1536) (ho := rfl), read_cut1 (k := 6) (o := 1536) (ho := rfl), read_cut (k := 5) (o := 1280) (ho := rfl), read_cut1 (k := 5) (o := 1280) (ho := rfl)]
  rfl

/-- The magnitudes of the first 9 chunks. -/
theorem B_r_39 (c : Dev nD) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (x2 : Vec Ideal S256x4096 .bf16) (x3 : Vec Ideal S1x4096 .f32) (x4 : Vec Ideal S256x256 .bf16) :
    (kernelRun0_B.sl.r_39 (F := Ideal) c arg3 harg3 arg4 harg4 arg5 harg5 x2 x3 x4) = (maximumf (maximumf (maximumf (maximumf (maximumf (maximumf (maximumf (maximumf (half (rawC x4 x2 x3 0)) (half (rawC x4 x2 x3 1))) (half (rawC x4 x2 x3 2))) (half (rawC x4 x2 x3 3))) (half (rawC x4 x2 x3 4))) (half (rawC x4 x2 x3 5))) (half (rawC x4 x2 x3 6))) (half (rawC x4 x2 x3 7))) (half (rawC x4 x2 x3 8))) := by
  simp (config := { proj := false }) only [kernelRun0_B.sl.r_39, kernelRun0_B.sl.r_38, B_h, B_r_37, read_cut (k := 8) (o := 2048) (ho := rfl), read_cut1 (k := 8) (o := 2048) (ho := rfl), read_cut (k := 7) (o := 1792) (ho := rfl), read_cut1 (k := 7) (o := 1792) (ho := rfl)]
  rfl

/-- The magnitudes of the first 11 chunks. -/
theorem B_r_41 (c : Dev nD) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (x2 : Vec Ideal S256x4096 .bf16) (x3 : Vec Ideal S1x4096 .f32) (x4 : Vec Ideal S256x256 .bf16) :
    (kernelRun0_B.sl.r_41 (F := Ideal) c arg3 harg3 arg4 harg4 arg5 harg5 x2 x3 x4) = (maximumf (maximumf (maximumf (maximumf (maximumf (maximumf (maximumf (maximumf (maximumf (maximumf (half (rawC x4 x2 x3 0)) (half (rawC x4 x2 x3 1))) (half (rawC x4 x2 x3 2))) (half (rawC x4 x2 x3 3))) (half (rawC x4 x2 x3 4))) (half (rawC x4 x2 x3 5))) (half (rawC x4 x2 x3 6))) (half (rawC x4 x2 x3 7))) (half (rawC x4 x2 x3 8))) (half (rawC x4 x2 x3 9))) (half (rawC x4 x2 x3 10))) := by
  simp (config := { proj := false }) only [kernelRun0_B.sl.r_41, kernelRun0_B.sl.r_40, B_h, B_r_39, read_cut (k := 10) (o := 2560) (ho := rfl), read_cut1 (k := 10) (o := 2560) (ho := rfl), read_cut (k := 9) (o := 2304) (ho := rfl), read_cut1 (k := 9) (o := 2304) (ho := rfl)]
  rfl

/-- The magnitudes of the first 13 chunks. -/
theorem B_r_43 (c : Dev nD) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (x2 : Vec Ideal S256x4096 .bf16) (x3 : Vec Ideal S1x4096 .f32) (x4 : Vec Ideal S256x256 .bf16) :
    (kernelRun0_B.sl.r_43 (F := Ideal) c arg3 harg3 arg4 harg4 arg5 harg5 x2 x3 x4) = (maximumf (maximumf (maximumf (maximumf (maximumf (maximumf (maximumf (maximumf (maximumf (maximumf (maximumf (maximumf (half (rawC x4 x2 x3 0)) (half (rawC x4 x2 x3 1))) (half (rawC x4 x2 x3 2))) (half (rawC x4 x2 x3 3))) (half (rawC x4 x2 x3 4))) (half (rawC x4 x2 x3 5))) (half (rawC x4 x2 x3 6))) (half (rawC x4 x2 x3 7))) (half (rawC x4 x2 x3 8))) (half (rawC x4 x2 x3 9))) (half (rawC x4 x2 x3 10))) (half (rawC x4 x2 x3 11))) (half (rawC x4 x2 x3 12))) := by
  simp (config := { proj := false }) only [kernelRun0_B.sl.r_43, kernelRun0_B.sl.r_42, B_h, B_r_41, read_cut (k := 12) (o := 3072) (ho := rfl), read_cut1 (k := 12) (o := 3072) (ho := rfl), read_cut (k := 11) (o := 2816) (ho := rfl), read_cut1 (k := 11) (o := 2816) (ho := rfl)]
  rfl

/-- The magnitudes of the first 16 chunks. -/
theorem B_r_45 (c : Dev nD) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (x2 : Vec Ideal S256x4096 .bf16) (x3 : Vec Ideal S1x4096 .f32) (x4 : Vec Ideal S256x256 .bf16) :
    (kernelRun0_B.sl.r_45 (F := Ideal) c arg3 harg3 arg4 harg4 arg5 harg5 x2 x3 x4) = amaxOf x4 x2 x3 := by
  simp (config := { proj := false }) only [kernelRun0_B.sl.r_45, kernelRun0_B.sl.r_44, B_h, B_r_43, read_cut (k := 14) (o := 3584) (ho := rfl), read_cut1 (k := 14) (o := 3584) (ho := rfl), read_cut (k := 15) (o := 3840) (ho := rfl), read_cut1 (k := 15) (o := 3840) (ho := rfl), read_cut (k := 13) (o := 3328) (ho := rfl), read_cut1 (k := 13) (o := 3328) (ho := rfl)]
  rfl

/-- The codes left for the next point, as pieces. -/
theorem B_LS1 (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (arg6 : Memref sig .tc .vmem S4096x3584 .fp8e4m3) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S256x4096 .f32) (harg11 : arg11.IsWhole) (arg12 : Memref sig .tc .vmem S256x4096 .fp8e4m3) (harg12 : arg12.IsWhole) (arg13 : Memref sig .tc .vmem S256x4096 .fp8e4m3) (harg13 : arg13.IsWhole) (arg14 : Memref sig .tc .vmem S256x128 .f32) (harg14 : arg14.IsWhole) (arg15 : Memref sig .tc .vmem S256x128 .f32) (harg15 : arg15.IsWhole) (hc0 : ¬cond0_0 i) (x0 : Vec Ideal S256x4096 .bf16) (x1 : Vec Ideal S256x4096 .bf16) (x2 : Vec Ideal S256x4096 .bf16) (x3 : Vec Ideal S1x4096 .f32) (x4 : Vec Ideal S256x256 .bf16) (x5 : Vec Ideal S4096x3584 .fp8e4m3) (x6 : Vec Ideal S1x3584 .f32) (xs1 : Vec Ideal S256x4096 .fp8e4m3) (xs3 : Vec Ideal S256x128 .f32) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs1 xs3).2.2.2.1 = cols (codeC x4 x2 x3) := by
  unfold kernelRun0_B
  dsimp only
  simp (config := { proj := false }) only [kernelRun0_B.sl.HS0_27, kernelRun0_B.sl.cst_127, kernelRun0_B.sl.cst_206, kernelRun0_B.sl.r, kernelRun0_B.sl.r_1, kernelRun0_B.sl.r_11, kernelRun0_B.sl.r_12, kernelRun0_B.sl.r_14, kernelRun0_B.sl.r_16, kernelRun0_B.sl.r_18, kernelRun0_B.sl.r_2, kernelRun0_B.sl.r_20, kernelRun0_B.sl.r_21, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_33, kernelRun0_B.sl.r_35, kernelRun0_B.sl.r_36, kernelRun0_B.sl.r_38, kernelRun0_B.sl.r_4, kernelRun0_B.sl.r_40, kernelRun0_B.sl.r_42, kernelRun0_B.sl.r_44, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_6, kernelRun0_B.sl.r_9, kernelRun0_B.sl.v1043, kernelRun0_B.sl.v1054, kernelRun0_B.sl.v1065, kernelRun0_B.sl.v1076, kernelRun0_B.sl.v1087, kernelRun0_B.sl.v1098, kernelRun0_B.sl.v1109, kernelRun0_B.sl.v1120, kernelRun0_B.sl.v1131, kernelRun0_B.sl.v1142, kernelRun0_B.sl.v1153, kernelRun0_B.sl.v1164, kernelRun0_B.sl.v1175, kernelRun0_B.sl.v1186, kernelRun0_B.sl.v1197, kernelRun0_B.sl.v1208, kernelRun0_B.sl.v435, kernelRun0_B.sl.v446, kernelRun0_B.sl.v457, kernelRun0_B.sl.v468, kernelRun0_B.sl.v479, kernelRun0_B.sl.v490, kernelRun0_B.sl.v501, kernelRun0_B.sl.v512, kernelRun0_B.sl.v523, kernelRun0_B.sl.v534, kernelRun0_B.sl.v545, kernelRun0_B.sl.v556, kernelRun0_B.sl.v567, kernelRun0_B.sl.v578, kernelRun0_B.sl.v589, kernelRun0_B.sl.v600, kernelRun0_B.sl.v907, B_h, B_rot1, B_r_7, B_r_8, B_r_10, B_r_13, B_r_15, B_r_17, B_r_19, B_exp1, B_scale1, B_codes1, B_all1, B_col1, B_rot2, B_r_31, B_r_32, B_r_34, B_r_37, B_r_39, B_r_41, B_r_43, B_r_45, cov_cut (k := 0) (o := 0) (ho := rfl), cov_cut (k := 1) (o := 256) (ho := rfl), cov_cut (k := 2) (o := 512) (ho := rfl), cov_cut (k := 3) (o := 768) (ho := rfl), cov_cut (k := 4) (o := 1024) (ho := rfl), cov_cut (k := 5) (o := 1280) (ho := rfl), cov_cut (k := 6) (o := 1536) (ho := rfl), cov_cut (k := 7) (o := 1792) (ho := rfl), cov_cut (k := 8) (o := 2048) (ho := rfl), cov_cut (k := 9) (o := 2304) (ho := rfl), cov_cut (k := 10) (o := 2560) (ho := rfl), cov_cut (k := 11) (o := 2816) (ho := rfl), cov_cut (k := 12) (o := 3072) (ho := rfl), cov_cut (k := 13) (o := 3328) (ho := rfl), cov_cut (k := 14) (o := 3584) (ho := rfl), cov_cut (k := 15) (o := 3840) (ho := rfl)]
  try rfl

/-- The scale left for the next point. -/
theorem B_LS3 (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (arg6 : Memref sig .tc .vmem S4096x3584 .fp8e4m3) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S256x4096 .f32) (harg11 : arg11.IsWhole) (arg12 : Memref sig .tc .vmem S256x4096 .fp8e4m3) (harg12 : arg12.IsWhole) (arg13 : Memref sig .tc .vmem S256x4096 .fp8e4m3) (harg13 : arg13.IsWhole) (arg14 : Memref sig .tc .vmem S256x128 .f32) (harg14 : arg14.IsWhole) (arg15 : Memref sig .tc .vmem S256x128 .f32) (harg15 : arg15.IsWhole) (hc0 : ¬cond0_0 i) (x0 : Vec Ideal S256x4096 .bf16) (x1 : Vec Ideal S256x4096 .bf16) (x2 : Vec Ideal S256x4096 .bf16) (x3 : Vec Ideal S1x4096 .f32) (x4 : Vec Ideal S256x256 .bf16) (x5 : Vec Ideal S4096x3584 .fp8e4m3) (x6 : Vec Ideal S1x3584 .f32) (xs1 : Vec Ideal S256x4096 .fp8e4m3) (xs3 : Vec Ideal S256x128 .f32) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs1 xs3).2.2.2.2.1 = [⟨Rect.unit ![0, 0] S256x128.size inb_S256x128_S256x128_0_0, scaleOf x4 x2 x3⟩] := by
  unfold kernelRun0_B
  dsimp only
  simp (config := { proj := false }) only [kernelRun0_B.sl.HS0_27, kernelRun0_B.sl.cst_127, kernelRun0_B.sl.cst_206, kernelRun0_B.sl.r, kernelRun0_B.sl.r_1, kernelRun0_B.sl.r_11, kernelRun0_B.sl.r_12, kernelRun0_B.sl.r_14, kernelRun0_B.sl.r_16, kernelRun0_B.sl.r_18, kernelRun0_B.sl.r_2, kernelRun0_B.sl.r_20, kernelRun0_B.sl.r_21, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_33, kernelRun0_B.sl.r_35, kernelRun0_B.sl.r_36, kernelRun0_B.sl.r_38, kernelRun0_B.sl.r_4, kernelRun0_B.sl.r_40, kernelRun0_B.sl.r_42, kernelRun0_B.sl.r_44, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_6, kernelRun0_B.sl.r_9, kernelRun0_B.sl.v1043, kernelRun0_B.sl.v1054, kernelRun0_B.sl.v1065, kernelRun0_B.sl.v1076, kernelRun0_B.sl.v1087, kernelRun0_B.sl.v1098, kernelRun0_B.sl.v1109, kernelRun0_B.sl.v1120, kernelRun0_B.sl.v1131, kernelRun0_B.sl.v1142, kernelRun0_B.sl.v1153, kernelRun0_B.sl.v1164, kernelRun0_B.sl.v1175, kernelRun0_B.sl.v1186, kernelRun0_B.sl.v1197, kernelRun0_B.sl.v1208, kernelRun0_B.sl.v435, kernelRun0_B.sl.v446, kernelRun0_B.sl.v457, kernelRun0_B.sl.v468, kernelRun0_B.sl.v479, kernelRun0_B.sl.v490, kernelRun0_B.sl.v501, kernelRun0_B.sl.v512, kernelRun0_B.sl.v523, kernelRun0_B.sl.v534, kernelRun0_B.sl.v545, kernelRun0_B.sl.v556, kernelRun0_B.sl.v567, kernelRun0_B.sl.v578, kernelRun0_B.sl.v589, kernelRun0_B.sl.v600, kernelRun0_B.sl.v907, B_h, B_rot1, B_r_7, B_r_8, B_r_10, B_r_13, B_r_15, B_r_17, B_r_19, B_exp1, B_scale1, B_codes1, B_all1, B_col1, B_rot2, B_r_31, B_r_32, B_r_34, B_r_37, B_r_39, B_r_41, B_r_43, B_r_45]
  try rfl

/-- The codes written. -/
theorem B_L8 (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (arg6 : Memref sig .tc .vmem S4096x3584 .fp8e4m3) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S256x4096 .f32) (harg11 : arg11.IsWhole) (arg12 : Memref sig .tc .vmem S256x4096 .fp8e4m3) (harg12 : arg12.IsWhole) (arg13 : Memref sig .tc .vmem S256x4096 .fp8e4m3) (harg13 : arg13.IsWhole) (arg14 : Memref sig .tc .vmem S256x128 .f32) (harg14 : arg14.IsWhole) (arg15 : Memref sig .tc .vmem S256x128 .f32) (harg15 : arg15.IsWhole) (hc0 : ¬cond0_0 i) (x0 : Vec Ideal S256x4096 .bf16) (x1 : Vec Ideal S256x4096 .bf16) (x2 : Vec Ideal S256x4096 .bf16) (x3 : Vec Ideal S1x4096 .f32) (x4 : Vec Ideal S256x256 .bf16) (x5 : Vec Ideal S4096x3584 .fp8e4m3) (x6 : Vec Ideal S1x3584 .f32) (xs1 : Vec Ideal S256x4096 .fp8e4m3) (xs3 : Vec Ideal S256x128 .f32) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs1 xs3).2.1 = twoC xs1 (codesOf x4 x1 x3) := by
  unfold kernelRun0_B
  dsimp only
  simp (config := { proj := false }) only [kernelRun0_B.sl.HS0_27, kernelRun0_B.sl.cst_127, kernelRun0_B.sl.cst_206, kernelRun0_B.sl.r, kernelRun0_B.sl.r_1, kernelRun0_B.sl.r_11, kernelRun0_B.sl.r_12, kernelRun0_B.sl.r_14, kernelRun0_B.sl.r_16, kernelRun0_B.sl.r_18, kernelRun0_B.sl.r_2, kernelRun0_B.sl.r_20, kernelRun0_B.sl.r_21, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_33, kernelRun0_B.sl.r_35, kernelRun0_B.sl.r_36, kernelRun0_B.sl.r_38, kernelRun0_B.sl.r_4, kernelRun0_B.sl.r_40, kernelRun0_B.sl.r_42, kernelRun0_B.sl.r_44, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_6, kernelRun0_B.sl.r_9, kernelRun0_B.sl.v1043, kernelRun0_B.sl.v1054, kernelRun0_B.sl.v1065, kernelRun0_B.sl.v1076, kernelRun0_B.sl.v1087, kernelRun0_B.sl.v1098, kernelRun0_B.sl.v1109, kernelRun0_B.sl.v1120, kernelRun0_B.sl.v1131, kernelRun0_B.sl.v1142, kernelRun0_B.sl.v1153, kernelRun0_B.sl.v1164, kernelRun0_B.sl.v1175, kernelRun0_B.sl.v1186, kernelRun0_B.sl.v1197, kernelRun0_B.sl.v1208, kernelRun0_B.sl.v435, kernelRun0_B.sl.v446, kernelRun0_B.sl.v457, kernelRun0_B.sl.v468, kernelRun0_B.sl.v479, kernelRun0_B.sl.v490, kernelRun0_B.sl.v501, kernelRun0_B.sl.v512, kernelRun0_B.sl.v523, kernelRun0_B.sl.v534, kernelRun0_B.sl.v545, kernelRun0_B.sl.v556, kernelRun0_B.sl.v567, kernelRun0_B.sl.v578, kernelRun0_B.sl.v589, kernelRun0_B.sl.v600, kernelRun0_B.sl.v907, B_h, B_rot1, B_r_7, B_r_8, B_r_10, B_r_13, B_r_15, B_r_17, B_r_19, B_exp1, B_scale1, B_codes1, B_all1, B_col1, B_rot2, B_r_31, B_r_32, B_r_34, B_r_37, B_r_39, B_r_41, B_r_43, B_r_45, read_all, read_all']
  try rfl

/-- The scale written. -/
theorem B_L9 (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (arg6 : Memref sig .tc .vmem S4096x3584 .fp8e4m3) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S256x4096 .f32) (harg11 : arg11.IsWhole) (arg12 : Memref sig .tc .vmem S256x4096 .fp8e4m3) (harg12 : arg12.IsWhole) (arg13 : Memref sig .tc .vmem S256x4096 .fp8e4m3) (harg13 : arg13.IsWhole) (arg14 : Memref sig .tc .vmem S256x128 .f32) (harg14 : arg14.IsWhole) (arg15 : Memref sig .tc .vmem S256x128 .f32) (harg15 : arg15.IsWhole) (hc0 : ¬cond0_0 i) (x0 : Vec Ideal S256x4096 .bf16) (x1 : Vec Ideal S256x4096 .bf16) (x2 : Vec Ideal S256x4096 .bf16) (x3 : Vec Ideal S1x4096 .f32) (x4 : Vec Ideal S256x256 .bf16) (x5 : Vec Ideal S4096x3584 .fp8e4m3) (x6 : Vec Ideal S1x3584 .f32) (xs1 : Vec Ideal S256x4096 .fp8e4m3) (xs3 : Vec Ideal S256x128 .f32) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs1 xs3).2.2.1 = twoS (col0 xs3) (col0 (scaleOf x4 x1 x3)) := by
  unfold kernelRun0_B
  dsimp only
  simp (config := { proj := false }) only [kernelRun0_B.sl.HS0_27, kernelRun0_B.sl.cst_127, kernelRun0_B.sl.cst_206, kernelRun0_B.sl.r, kernelRun0_B.sl.r_1, kernelRun0_B.sl.r_11, kernelRun0_B.sl.r_12, kernelRun0_B.sl.r_14, kernelRun0_B.sl.r_16, kernelRun0_B.sl.r_18, kernelRun0_B.sl.r_2, kernelRun0_B.sl.r_20, kernelRun0_B.sl.r_21, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_33, kernelRun0_B.sl.r_35, kernelRun0_B.sl.r_36, kernelRun0_B.sl.r_38, kernelRun0_B.sl.r_4, kernelRun0_B.sl.r_40, kernelRun0_B.sl.r_42, kernelRun0_B.sl.r_44, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_6, kernelRun0_B.sl.r_9, kernelRun0_B.sl.v1043, kernelRun0_B.sl.v1054, kernelRun0_B.sl.v1065, kernelRun0_B.sl.v1076, kernelRun0_B.sl.v1087, kernelRun0_B.sl.v1098, kernelRun0_B.sl.v1109, kernelRun0_B.sl.v1120, kernelRun0_B.sl.v1131, kernelRun0_B.sl.v1142, kernelRun0_B.sl.v1153, kernelRun0_B.sl.v1164, kernelRun0_B.sl.v1175, kernelRun0_B.sl.v1186, kernelRun0_B.sl.v1197, kernelRun0_B.sl.v1208, kernelRun0_B.sl.v435, kernelRun0_B.sl.v446, kernelRun0_B.sl.v457, kernelRun0_B.sl.v468, kernelRun0_B.sl.v479, kernelRun0_B.sl.v490, kernelRun0_B.sl.v501, kernelRun0_B.sl.v512, kernelRun0_B.sl.v523, kernelRun0_B.sl.v534, kernelRun0_B.sl.v545, kernelRun0_B.sl.v556, kernelRun0_B.sl.v567, kernelRun0_B.sl.v578, kernelRun0_B.sl.v589, kernelRun0_B.sl.v600, kernelRun0_B.sl.v907, B_h, B_rot1, B_r_7, B_r_8, B_r_10, B_r_13, B_r_15, B_r_17, B_r_19, B_exp1, B_scale1, B_codes1, B_all1, B_col1, B_rot2, B_r_31, B_r_32, B_r_34, B_r_37, B_r_39, B_r_41, B_r_43, B_r_45, read_col0, read_col0']
  try rfl

/-- The tiles of y written. -/
theorem B_L7 (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (arg6 : Memref sig .tc .vmem S4096x3584 .fp8e4m3) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S256x4096 .f32) (harg11 : arg11.IsWhole) (arg12 : Memref sig .tc .vmem S256x4096 .fp8e4m3) (harg12 : arg12.IsWhole) (arg13 : Memref sig .tc .vmem S256x4096 .fp8e4m3) (harg13 : arg13.IsWhole) (arg14 : Memref sig .tc .vmem S256x128 .f32) (harg14 : arg14.IsWhole) (arg15 : Memref sig .tc .vmem S256x128 .f32) (harg15 : arg15.IsWhole) (hc0 : ¬cond0_0 i) (x0 : Vec Ideal S256x4096 .bf16) (x1 : Vec Ideal S256x4096 .bf16) (x2 : Vec Ideal S256x4096 .bf16) (x3 : Vec Ideal S1x4096 .f32) (x4 : Vec Ideal S256x256 .bf16) (x5 : Vec Ideal S4096x3584 .fp8e4m3) (x6 : Vec Ideal S1x3584 .f32) (xs1 : Vec Ideal S256x4096 .fp8e4m3) (xs3 : Vec Ideal S256x128 .f32) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs1 xs3).1 = tiles (tileOf xs1 xs3 x5 x6) (tileOf (codesOf x4 x1 x3) (scaleOf x4 x1 x3) x5 x6) := by
  unfold kernelRun0_B
  dsimp only
  simp (config := { proj := false }) only [kernelRun0_B.sl.HS0_27, kernelRun0_B.sl.cst_127, kernelRun0_B.sl.cst_206, kernelRun0_B.sl.r, kernelRun0_B.sl.r_1, kernelRun0_B.sl.r_11, kernelRun0_B.sl.r_12, kernelRun0_B.sl.r_14, kernelRun0_B.sl.r_16, kernelRun0_B.sl.r_18, kernelRun0_B.sl.r_2, kernelRun0_B.sl.r_20, kernelRun0_B.sl.r_21, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_33, kernelRun0_B.sl.r_35, kernelRun0_B.sl.r_36, kernelRun0_B.sl.r_38, kernelRun0_B.sl.r_4, kernelRun0_B.sl.r_40, kernelRun0_B.sl.r_42, kernelRun0_B.sl.r_44, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_6, kernelRun0_B.sl.r_9, kernelRun0_B.sl.v1043, kernelRun0_B.sl.v1054, kernelRun0_B.sl.v1065, kernelRun0_B.sl.v1076, kernelRun0_B.sl.v1087, kernelRun0_B.sl.v1098, kernelRun0_B.sl.v1109, kernelRun0_B.sl.v1120, kernelRun0_B.sl.v1131, kernelRun0_B.sl.v1142, kernelRun0_B.sl.v1153, kernelRun0_B.sl.v1164, kernelRun0_B.sl.v1175, kernelRun0_B.sl.v1186, kernelRun0_B.sl.v1197, kernelRun0_B.sl.v1208, kernelRun0_B.sl.v435, kernelRun0_B.sl.v446, kernelRun0_B.sl.v457, kernelRun0_B.sl.v468, kernelRun0_B.sl.v479, kernelRun0_B.sl.v490, kernelRun0_B.sl.v501, kernelRun0_B.sl.v512, kernelRun0_B.sl.v523, kernelRun0_B.sl.v534, kernelRun0_B.sl.v545, kernelRun0_B.sl.v556, kernelRun0_B.sl.v567, kernelRun0_B.sl.v578, kernelRun0_B.sl.v589, kernelRun0_B.sl.v600, kernelRun0_B.sl.v907, B_h, B_rot1, B_r_7, B_r_8, B_r_10, B_r_13, B_r_15, B_r_17, B_r_19, B_exp1, B_scale1, B_codes1, B_all1, B_col1, B_rot2, B_r_31, B_r_32, B_r_34, B_r_37, B_r_39, B_r_41, B_r_43, B_r_45, read_all, read_all', read_col0, read_col0', read_cutW (k := 0) (o := 0) (ho := rfl), read_cutW (k := 1) (o := 512) (ho := rfl), read_cutW (k := 2) (o := 1024) (ho := rfl), read_cutW (k := 3) (o := 1536) (ho := rfl), read_cutW (k := 4) (o := 2048) (ho := rfl), read_cutW (k := 5) (o := 2560) (ho := rfl), read_cutW (k := 6) (o := 3072) (ho := rfl), read_cutS (k := 0) (o := 0) (ho := rfl), read_cutS (k := 1) (o := 512) (ho := rfl), read_cutS (k := 2) (o := 1024) (ho := rfl), read_cutS (k := 3) (o := 1536) (ho := rfl), read_cutS (k := 4) (o := 2048) (ho := rfl), read_cutS (k := 5) (o := 2560) (ho := rfl), read_cutS (k := 6) (o := 3072) (ho := rfl)]
  try rfl

/-- The codes left for the next point. -/
theorem B_next_codes (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (arg6 : Memref sig .tc .vmem S4096x3584 .fp8e4m3) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S256x4096 .f32) (harg11 : arg11.IsWhole) (arg12 : Memref sig .tc .vmem S256x4096 .fp8e4m3) (harg12 : arg12.IsWhole) (arg13 : Memref sig .tc .vmem S256x4096 .fp8e4m3) (harg13 : arg13.IsWhole) (arg14 : Memref sig .tc .vmem S256x128 .f32) (harg14 : arg14.IsWhole) (arg15 : Memref sig .tc .vmem S256x128 .f32) (harg15 : arg15.IsWhole) (hc0 : ¬cond0_0 i) (x0 : Vec Ideal S256x4096 .bf16) (x1 : Vec Ideal S256x4096 .bf16) (x2 : Vec Ideal S256x4096 .bf16) (x3 : Vec Ideal S1x4096 .f32) (x4 : Vec Ideal S256x256 .bf16) (x5 : Vec Ideal S4096x3584 .fp8e4m3) (x6 : Vec Ideal S1x3584 .f32) (xs1 : Vec Ideal S256x4096 .fp8e4m3) (xs3 : Vec Ideal S256x128 .f32) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs1 xs3 = codesOf x4 x2 x3 := by
  unfold sout0_B_1
  rw [B_LS1, read_cols']
  rfl

/-- The scale left for the next point. -/
theorem B_next_scale (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (arg6 : Memref sig .tc .vmem S4096x3584 .fp8e4m3) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S256x4096 .f32) (harg11 : arg11.IsWhole) (arg12 : Memref sig .tc .vmem S256x4096 .fp8e4m3) (harg12 : arg12.IsWhole) (arg13 : Memref sig .tc .vmem S256x4096 .fp8e4m3) (harg13 : arg13.IsWhole) (arg14 : Memref sig .tc .vmem S256x128 .f32) (harg14 : arg14.IsWhole) (arg15 : Memref sig .tc .vmem S256x128 .f32) (harg15 : arg15.IsWhole) (hc0 : ¬cond0_0 i) (x0 : Vec Ideal S256x4096 .bf16) (x1 : Vec Ideal S256x4096 .bf16) (x2 : Vec Ideal S256x4096 .bf16) (x3 : Vec Ideal S1x4096 .f32) (x4 : Vec Ideal S256x256 .bf16) (x5 : Vec Ideal S4096x3584 .fp8e4m3) (x6 : Vec Ideal S1x3584 .f32) (xs1 : Vec Ideal S256x4096 .fp8e4m3) (xs3 : Vec Ideal S256x128 .f32) :
    sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs1 xs3 = scaleOf x4 x2 x3 := by
  unfold sout0_B_3
  rw [B_LS3, read_whole]

/-- The codes the point writes. -/
theorem B_codes (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (arg6 : Memref sig .tc .vmem S4096x3584 .fp8e4m3) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S256x4096 .f32) (harg11 : arg11.IsWhole) (arg12 : Memref sig .tc .vmem S256x4096 .fp8e4m3) (harg12 : arg12.IsWhole) (arg13 : Memref sig .tc .vmem S256x4096 .fp8e4m3) (harg13 : arg13.IsWhole) (arg14 : Memref sig .tc .vmem S256x128 .f32) (harg14 : arg14.IsWhole) (arg15 : Memref sig .tc .vmem S256x128 .f32) (harg15 : arg15.IsWhole) (hc0 : ¬cond0_0 i) (x0 : Vec Ideal S256x4096 .bf16) (x1 : Vec Ideal S256x4096 .bf16) (x2 : Vec Ideal S256x4096 .bf16) (x3 : Vec Ideal S1x4096 .f32) (x4 : Vec Ideal S256x256 .bf16) (x5 : Vec Ideal S4096x3584 .fp8e4m3) (x6 : Vec Ideal S1x3584 .f32) (xs1 : Vec Ideal S256x4096 .fp8e4m3) (xs3 : Vec Ideal S256x128 .f32) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs1 xs3 = stackC xs1 (codesOf x4 x1 x3) := by
  unfold out0_B_8
  rw [B_L8, read_twoC]

/-- The scale the point writes. -/
theorem B_scale (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (arg6 : Memref sig .tc .vmem S4096x3584 .fp8e4m3) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S256x4096 .f32) (harg11 : arg11.IsWhole) (arg12 : Memref sig .tc .vmem S256x4096 .fp8e4m3) (harg12 : arg12.IsWhole) (arg13 : Memref sig .tc .vmem S256x4096 .fp8e4m3) (harg13 : arg13.IsWhole) (arg14 : Memref sig .tc .vmem S256x128 .f32) (harg14 : arg14.IsWhole) (arg15 : Memref sig .tc .vmem S256x128 .f32) (harg15 : arg15.IsWhole) (hc0 : ¬cond0_0 i) (x0 : Vec Ideal S256x4096 .bf16) (x1 : Vec Ideal S256x4096 .bf16) (x2 : Vec Ideal S256x4096 .bf16) (x3 : Vec Ideal S1x4096 .f32) (x4 : Vec Ideal S256x256 .bf16) (x5 : Vec Ideal S4096x3584 .fp8e4m3) (x6 : Vec Ideal S1x3584 .f32) (xs1 : Vec Ideal S256x4096 .fp8e4m3) (xs3 : Vec Ideal S256x128 .f32) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs1 xs3 = stackS (col0 xs3) (col0 (scaleOf x4 x1 x3)) := by
  unfold out0_B_9
  rw [B_L9, read_twoS]

/-- The rows of y the point writes. -/
theorem B_y (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S256x256 .bf16) (harg5 : arg5.IsWhole) (arg6 : Memref sig .tc .vmem S4096x3584 .fp8e4m3) (harg6 : arg6.IsWhole) (arg7 : Memref sig .tc .vmem S1x3584 .f32) (harg7 : arg7.IsWhole) (arg8 : Memref sig .tc .vmem S512x3584 .bf16) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S256x4096 .f32) (harg11 : arg11.IsWhole) (arg12 : Memref sig .tc .vmem S256x4096 .fp8e4m3) (harg12 : arg12.IsWhole) (arg13 : Memref sig .tc .vmem S256x4096 .fp8e4m3) (harg13 : arg13.IsWhole) (arg14 : Memref sig .tc .vmem S256x128 .f32) (harg14 : arg14.IsWhole) (arg15 : Memref sig .tc .vmem S256x128 .f32) (harg15 : arg15.IsWhole) (hc0 : ¬cond0_0 i) (x0 : Vec Ideal S256x4096 .bf16) (x1 : Vec Ideal S256x4096 .bf16) (x2 : Vec Ideal S256x4096 .bf16) (x3 : Vec Ideal S1x4096 .f32) (x4 : Vec Ideal S256x256 .bf16) (x5 : Vec Ideal S4096x3584 .fp8e4m3) (x6 : Vec Ideal S1x3584 .f32) (xs1 : Vec Ideal S256x4096 .fp8e4m3) (xs3 : Vec Ideal S256x128 .f32) :
    out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs1 xs3 = mosaic (tileOf xs1 xs3 x5 x6) (tileOf (codesOf x4 x1 x3) (scaleOf x4 x1 x3) x5 x6) := by
  unfold out0_B_7
  rw [B_L7, read_tiles]

end Cert.Quarot

end
-- ==== Proof.Carry.lean ====
/-
  THE KERNEL'S THREE RESULTS, index by index. Point `n` writes rows 512n to 512n+511: the upper half from the codes and scales the
  point before left (the first point makes its own), the lower half from the block it rotates itself. Whichever way, row `r` of each
  result is the row's codes, scale and product of `Row.lean` for row `r` of the activations times the signs.
-/
module

public import proofs.«01_k».proof.Proof.Windows
public import proofs.«01_k».proof.Proof.StepA
public import proofs.«01_k».proof.Proof.StepB

@[expose] public section

noncomputable section

namespace Cert.Quarot

open Idealize.ShloMosaic Idealize.ShloMosaic.TcCoe Cert.KernelIdeal Cert.KernelIdeal.Gen Cert.KernelIdeal.Value

variable (m : (ℓ : Loc nD τ sig) → Buf (Elt Ideal) ℓ) (c : Dev nD)

/-- The weights and column scales, as functions of the row, column. -/
abbrev wArg : Fin 4096 → Fin 3584 → EReal := fun k n => argW m c (ix2 k n)
abbrev wsArg : Fin 3584 → EReal := fun n => argWs m c (ix1 n)

/-- What a point leaves, given the codes and scales of its upper half. -/
abbrev left (t : Fin cfg0.N) (C : Vec Ideal S256x4096 .fp8e4m3) (S : Vec Ideal S256x128 .f32) :
    Vec Ideal S512x3584 .bf16 × Vec Ideal S512x4096 .fp8e4m3 × Vec Ideal S512x1 .f32 × Vec Ideal S256x4096 .fp8e4m3 × Vec Ideal S256x128 .f32 :=
  (mosaic (tileOf C S (iblk m c 5 t) (iblk m c 6 t))
      (tileOf (codesOf (iblk m c 4 t) (iblk m c 1 t) (iblk m c 3 t)) (scaleOf (iblk m c 4 t) (iblk m c 1 t) (iblk m c 3 t)) (iblk m c 5 t) (iblk m c 6 t)),
    stackC C (codesOf (iblk m c 4 t) (iblk m c 1 t) (iblk m c 3 t)),
    stackS (col0 S) (col0 (scaleOf (iblk m c 4 t) (iblk m c 1 t) (iblk m c 3 t))),
    codesOf (iblk m c 4 t) (iblk m c 2 t) (iblk m c 3 t),
    scaleOf (iblk m c 4 t) (iblk m c 2 t) (iblk m c 3 t))

/-- The first point makes the codes and scales of its upper half from block 0. -/
theorem outs_first (h : 0 < cfg0.N) : outsAt0 m c 0 h = left m c ⟨0, h⟩ (codesOf (iblk m c 4 ⟨0, h⟩) (iblk m c 0 ⟨0, h⟩) (iblk m c 3 ⟨0, h⟩))
    (scaleOf (iblk m c 4 ⟨0, h⟩) (iblk m c 0 ⟨0, h⟩) (iblk m c 3 ⟨0, h⟩)) := by
  rw [outsAt0_zero, stAt0_A m c ⟨0, h⟩ junk0 rfl]
  exact congrArg₂ Prod.mk (A_y ..) (congrArg₂ Prod.mk (A_codes ..) (congrArg₂ Prod.mk (A_scale ..) (congrArg₂ Prod.mk (A_next_codes ..) (A_next_scale ..))))

/-- Every later point takes them from the point before. -/
theorem outs_later (n : ℕ) (h : n + 1 < cfg0.N) : outsAt0 m c (n + 1) h
    = left m c ⟨n + 1, h⟩ (outsAt0 m c n (Nat.lt_of_succ_lt h)).2.2.2.1 (outsAt0 m c n (Nat.lt_of_succ_lt h)).2.2.2.2 := by
  have h0 : ¬(n + 1) % 16 = 0 := by
    have hN := lt_of_lt_of_eq h (show cfg0.N = 16 from N_0)
    omega
  rw [outsAt0_succ, stAt0_B m c ⟨n + 1, h⟩ _ h0]
  exact congrArg₂ Prod.mk (B_y ..) (congrArg₂ Prod.mk (B_codes ..) (congrArg₂ Prod.mk (B_scale ..) (congrArg₂ Prod.mk (B_next_codes ..) (B_next_scale ..))))

/-- `C` and `S` are the codes and scales of the 256 rows from row `256 b` on. -/
def Holds (b : ℕ) (C : Vec Ideal S256x4096 .fp8e4m3) (S : Vec Ideal S256x128 .f32) : Prop :=
  ∀ (r : Fin 256) (hr : b * 256 + r.val < 8192), (∀ j, C (ix2 r j) = rowCode (zArg m c ⟨b * 256 + r.val, hr⟩) j)
    ∧ ∀ l, S (ix2 r l) = rowScale (zArg m c ⟨b * 256 + r.val, hr⟩)

section
variable (hB : ∀ r, Bounded (zArg m c r))
include hB

/-- A block whose rows are those of block `b` of the arguments yields the codes and scales of block `b`. -/
theorem holds_of (t : Fin cfg0.N) (x : Vec Ideal S256x4096 .bf16) (b : ℕ)
    (hx : ∀ (r : Fin 256) (hr : b * 256 + r.val < 8192), zrow x (iblk m c 3 t) r = zArg m c ⟨b * 256 + r.val, hr⟩) :
    Holds m c b (codesOf (iblk m c 4 t) x (iblk m c 3 t)) (scaleOf (iblk m c 4 t) x (iblk m c 3 t)) := by
  intro r hr
  rw [← hx r hr]
  have hz : Bounded (zrow x (iblk m c 3 t) r) := by rw [hx r hr]; exact hB _
  exact ⟨fun j => codes_row _ _ _ r (block4 m c t) hz j, fun l => scale_row _ _ _ r (block4 m c t) hz l⟩

/-- The second input window of point `t` yields the codes and scales of block `2 t + 1`. -/
theorem holds1 (t : Fin cfg0.N) : Holds m c (2 * t.val + 1) (codesOf (iblk m c 4 t) (iblk m c 1 t) (iblk m c 3 t)) (scaleOf (iblk m c 4 t) (iblk m c 1 t) (iblk m c 3 t)) :=
  holds_of m c hB t _ _ fun r hr => zrow1 m c t r _ rfl hr

/-- What the next point finds. -/
theorem holds_next (n : ℕ) (h : n < cfg0.N) (b : ℕ) (hb : min (2 * n + 2) 31 = b) :
    Holds m c b (outsAt0 m c n h).2.2.2.1 (outsAt0 m c n h).2.2.2.2 := by
  have key := holds_of m c hB ⟨n, h⟩ _ b fun r hr => zrow2 m c ⟨n, h⟩ r b hb hr
  cases n with
  | zero => rw [outs_first]; exact key
  | succ n => rw [outs_later]; exact key

/-- A point's upper half is the block of rows from 512n on. -/
theorem outs_eq (n : ℕ) (h : n < cfg0.N) : ∃ C S, outsAt0 m c n h = left m c ⟨n, h⟩ C S ∧ Holds m c (2 * n) C S := by
  cases n with
  | zero =>
    refine ⟨_, _, outs_first m c h, holds_of m c hB ⟨0, h⟩ _ _ fun r hr => (zrow0 m c ⟨0, h⟩ r).trans (congrArg (zArg m c) (Fin.ext ?_))⟩
    show r.val = 2 * 0 * 256 + r.val
    omega
  | succ n =>
    have hN := lt_of_lt_of_eq h (show cfg0.N = 16 from N_0)
    exact ⟨_, _, outs_later m c n h, holds_next m c hB n _ _ (by omega)⟩

/-! ## The results -/

/-- The codes written by point `n` are the codes of the rows `512 n ..`. -/
theorem codes_at (n : ℕ) (h : n < cfg0.N) (l : Fin 512) (j : Fin 4096) (r : Fin 8192) (hr : r.val = 512 * n + l.val) :
    (outsAt0 m c n h).2.1 (ix2 l j) = rowCode (zArg m c r) j := by
  obtain ⟨C, S, e, hC⟩ := outs_eq m c hB n h
  rw [e]
  show stackC C _ (ix2 l j) = _
  unfold stackC
  by_cases hl : l.val < 256
  · rw [dif_pos (show ((ix2 l j) 0).val < 256 from hl)]
    refine ((hC ⟨l.val, hl⟩ (by show 2 * n * 256 + l.val < 8192; omega)).1 j).trans (congrArg (fun q => rowCode (zArg m c q) j) (Fin.ext ?_))
    show 2 * n * 256 + l.val = r.val
    omega
  · rw [dif_neg (show ¬((ix2 l j) 0).val < 256 from hl)]
    refine ((holds1 m c hB ⟨n, h⟩ ⟨l.val - 256, by omega⟩ (by show (2 * n + 1) * 256 + (l.val - 256) < 8192; omega)).1 j).trans
      (congrArg (fun q => rowCode (zArg m c q) j) (Fin.ext ?_))
    show (2 * n + 1) * 256 + (l.val - 256) = r.val
    omega

/-- The scales written by point `n` are the scales of the rows `512 n ..`. -/
theorem scale_at (n : ℕ) (h : n < cfg0.N) (l : Fin 512) (u : Fin 1) (r : Fin 8192) (hr : r.val = 512 * n + l.val) :
    (outsAt0 m c n h).2.2.1 (ix2 l u) = rowScale (zArg m c r) := by
  obtain ⟨C, S, e, hC⟩ := outs_eq m c hB n h
  rw [e]
  show stackS (col0 S) _ (ix2 l u) = _
  unfold stackS
  by_cases hl : l.val < 256
  · rw [dif_pos (show ((ix2 l u) 0).val < 256 from hl)]
    refine ((hC ⟨l.val, hl⟩ (by show 2 * n * 256 + l.val < 8192; omega)).2 ⟨u.val, by omega⟩).trans (congrArg (fun q => rowScale (zArg m c q)) (Fin.ext ?_))
    show 2 * n * 256 + l.val = r.val
    omega
  · rw [dif_neg (show ¬((ix2 l u) 0).val < 256 from hl)]
    refine ((holds1 m c hB ⟨n, h⟩ ⟨l.val - 256, by omega⟩ (by show (2 * n + 1) * 256 + (l.val - 256) < 8192; omega)).2 ⟨u.val, by omega⟩).trans
      (congrArg (fun q => rowScale (zArg m c q)) (Fin.ext ?_))
    show (2 * n + 1) * 256 + (l.val - 256) = r.val
    omega

omit hB in
/-- A tile of a block whose codes and scales are the rows' own. -/
theorem tile_at (t : Fin cfg0.N) (b : ℕ) (C : Vec Ideal S256x4096 .fp8e4m3) (S : Vec Ideal S256x128 .f32) (hC : Holds m c b C S) (q : Fin 256)
    (r : Fin 8192) (hr : r.val = b * 256 + q.val) (j : Fin 3584) :
    tileOf C S (iblk m c 5 t) (iblk m c 6 t) ⟨j.val / 512, by omega⟩ (ix2 q ⟨j.val % 512, by omega⟩) = rowOut (zArg m c r) (wArg m c) (wsArg m c) j := by
  obtain ⟨h1, h2⟩ := hC q (by omega)
  refine (tile_row C S _ _ (zArg m c ⟨b * 256 + q.val, by omega⟩) q h1 (h2 0) _ _).trans ?_
  have er : (⟨b * 256 + q.val, by omega⟩ : Fin 8192) = r := Fin.ext hr.symm
  have ej : (⟨512 * (j.val / 512) + j.val % 512, by omega⟩ : Fin 3584) = j := Fin.ext (by show 512 * (j.val / 512) + j.val % 512 = j.val; omega)
  have ew : (fun k n => (iblk m c 5 t : Vec Ideal S4096x3584 .fp8e4m3) (ix2 k n)) = wArg m c := funext fun k => funext fun n => block5 m c t k n
  have es : (fun n => (iblk m c 6 t : Vec Ideal S1x3584 .f32) (ix2 0 n)) = wsArg m c := funext fun n => block6 m c t n
  rw [er]
  show rowOut (zArg m c r) (fun k n => (iblk m c 5 t : Vec Ideal S4096x3584 .fp8e4m3) (ix2 k n)) (fun n => (iblk m c 6 t : Vec Ideal S1x3584 .f32) (ix2 0 n))
    (⟨512 * (j.val / 512) + j.val % 512, by omega⟩ : Fin 3584) = _
  rw [ew, es, ej]

/-- The products written by point `n` are the products of the rows `512 n ..`. -/
theorem y_at (n : ℕ) (h : n < cfg0.N) (l : Fin 512) (j : Fin 3584) (r : Fin 8192) (hr : r.val = 512 * n + l.val) :
    (outsAt0 m c n h).1 (ix2 l j) = rowOut (zArg m c r) (wArg m c) (wsArg m c) j := by
  obtain ⟨C, S, e, hC⟩ := outs_eq m c hB n h
  rw [e]
  show mosaic (tileOf C S _ _) _ (ix2 l j) = _
  unfold mosaic
  by_cases hl : l.val < 256
  · rw [dif_pos (show ((ix2 l j) 0).val < 256 from hl)]
    exact tile_at m c ⟨n, h⟩ (2 * n) C S hC ⟨l.val, hl⟩ r (by show r.val = 2 * n * 256 + l.val; omega) j
  · rw [dif_neg (show ¬((ix2 l j) 0).val < 256 from hl)]
    exact tile_at m c ⟨n, h⟩ (2 * n + 1) _ _ (holds1 m c hB ⟨n, h⟩) ⟨l.val - 256, by omega⟩ r
      (by show r.val = (2 * n + 1) * 256 + (l.val - 256); omega) j

/-- THE PRODUCT, every entry. -/
theorem y_eq (r : Fin 8192) (j : Fin 3584) : (G7 m c : Vec Ideal S8192x3584 .bf16) (ix2 r j) = rowOut (zArg m c r) (wArg m c) (wsArg m c) j := by
  have hp : pt7Of (ix2 r j) = r.val / 512 := by
    show 1 * (r.val / 512 - 0) + 1 * (j.val / 3584 - 0) = r.val / 512
    omega
  have h : pt7Of (ix2 r j) < cfg0.N := lt_of_lt_of_eq (by rw [hp]; omega) (show cfg0.N = 16 from N_0).symm
  unfold G7
  rw [dif_pos h, ← outsAt0_sweep m c _ h]
  refine (congrArg (outsAt0 m c _ h).1 (funext fun a => Fin.ext ?_)).trans (y_at m c hB _ h ⟨r.val % 512, by omega⟩ j r ?_)
  · match a with
    | ⟨0, _⟩ => rfl
    | ⟨1, _⟩ => show j.val % 3584 = j.val; omega
  · rw [hp]; show r.val = 512 * (r.val / 512) + r.val % 512; omega

/-- THE CODES, every entry. -/
theorem codes_eq (r : Fin 8192) (j : Fin 4096) : (G8 m c : Vec Ideal S8192x4096 .fp8e4m3) (ix2 r j) = rowCode (zArg m c r) j := by
  have hp : pt8Of (ix2 r j) = r.val / 512 := by
    show 1 * (r.val / 512 - 0) + 1 * (j.val / 4096 - 0) = r.val / 512
    omega
  have h : pt8Of (ix2 r j) < cfg0.N := lt_of_lt_of_eq (by rw [hp]; omega) (show cfg0.N = 16 from N_0).symm
  unfold G8
  rw [dif_pos h, ← outsAt0_sweep m c _ h]
  refine (congrArg (outsAt0 m c _ h).2.1 (funext fun a => Fin.ext ?_)).trans (codes_at m c hB _ h ⟨r.val % 512, by omega⟩ j r ?_)
  · match a with
    | ⟨0, _⟩ => rfl
    | ⟨1, _⟩ => show j.val % 4096 = j.val; omega
  · rw [hp]; show r.val = 512 * (r.val / 512) + r.val % 512; omega

/-- THE SCALES, every entry. -/
theorem scale_eq (r : Fin 8192) (u : Fin 1) : (G9 m c : Vec Ideal S8192x1 .f32) (ix2 r u) = rowScale (zArg m c r) := by
  have hp : pt9Of (ix2 r u) = r.val / 512 := by
    show 1 * (r.val / 512 - 0) + 1 * (u.val / 1 - 0) = r.val / 512
    omega
  have h : pt9Of (ix2 r u) < cfg0.N := lt_of_lt_of_eq (by rw [hp]; omega) (show cfg0.N = 16 from N_0).symm
  unfold G9
  rw [dif_pos h, ← outsAt0_sweep m c _ h]
  refine (congrArg (outsAt0 m c _ h).2.2.1 (funext fun a => Fin.ext ?_)).trans (scale_at m c hB _ h ⟨r.val % 512, by omega⟩ u r ?_)
  · match a with
    | ⟨0, _⟩ => rfl
    | ⟨1, _⟩ => show u.val % 1 = u.val; omega
  · rw [hp]; show r.val = 512 * (r.val / 512) + r.val % 512; omega

end

end Cert.Quarot

end
-- ==== Proof.RefHost.lean ====
/-
  THE REFERENCE'S ARRAYS BEFORE ITS PRODUCT, entry by entry, as the operations leave them: the sign matrix built by repeated
  Kronecker products, the rotated input as a sum over its 128-block, and the exponent array as a function of the rotated row.
  The host operations are read in five stretches, each over an arbitrary memory.
-/
module

public import proofs.«01_k».proof.Proof.Row
public import proofs.«01_k».proof.Proof.Gen.ReferenceIdeal.Frame
public import Idealize.ShloMosaic.Lib.Pointwise
public import Idealize.ShloMosaic.Lib.Claim
public import Idealize.ShloMosaic.Lib.StableHlo.ReadAt

@[expose] public section

noncomputable section

namespace Cert.Quarot.Ref

open Idealize.ShloMosaic Idealize.ShloMosaic.TcCoe Cert.ReferenceIdeal Cert.ReferenceIdeal.Gen

/-- The operations that build the sign matrix. -/
abbrev opsH : List (HloOp τ sig (Elt Ideal)) :=
  hostOps0 ++ hostOps0_1 ++ hostOps0_2 ++ hostOps0_3 ++ hostOps0_4 ++ hostOps0_5 ++ hostOps0_6 ++ hostOps0_7

/-- The operations that rotate the input. -/
abbrev opsA : List (HloOp τ sig (Elt Ideal)) := hostOps0_8.take 10

/-- The operations that find each row's largest magnitude. -/
abbrev opsR : List (HloOp τ sig (Elt Ideal)) := (hostOps0_8.drop 10).take 3

/-- The operations that find the exponents. -/
abbrev opsT : List (HloOp τ sig (Elt Ideal)) := hostOps0_8.drop 13 ++ hostOps0_9 ++ hostOps0_10 ++ hostOps0_11

/-- The region finds what the five stretches leave. -/
theorem V_eq (m : (ℓ : Loc nD τ sig) → Buf (Elt Ideal) ℓ) (c : Dev nD) (b : Ref sig .tc) :
    V m c b = StableHlo.after hostOps0_12 (StableHlo.after opsT (StableHlo.after opsR (StableHlo.after opsA (StableHlo.after opsH (fun b => m (c, b)))))) b := by
  rw [← StableHlo.after_append, ← StableHlo.after_append, ← StableHlo.after_append, ← StableHlo.after_append]
  rfl

variable (σ : Valuation τ sig (Elt Ideal))

/-- The f32 word `0xBF800000` is -1. -/
theorem ofBits_neg_one : Ideal.ofBits .f32 0xBF800000#32 = ((-1 : ℝ) : EReal) := by
  change Ideal.ieee 8 23 0xBF800000#32 = _
  unfold Ideal.ieee
  simp only [show 8 + 23 = 31 from rfl, show ((0xBF800000#32).extractLsb' 31 1 == 1#1) = true by decide,
    show ((0xBF800000#32).extractLsb' 23 8).toNat = 127 by decide, show ((0xBF800000#32).extractLsb' 0 23).toNat = 0 by decide]
  norm_num

/-- The f32 word `0x3F800000` is 1. -/
theorem ofBits_one : Ideal.ofBits .f32 0x3F800000#32 = ((1 : ℝ) : EReal) := by
  rw [ofBits_normal _ 127 0 (by decide) (by decide) (by decide) (by decide) (by decide)]
  norm_num

/-- The 2×2 sign matrix. -/
theorem base_apply (a b : Fin 2) : Ideal.ofBits .f32 (lit0 (S2x2.rowMajor (ix2 a b))) = ((sgn (a.val % 2 == 1 && b.val % 2 == 1) : ℝ) : EReal) := by
  have e : S2x2.rowMajor (ix2 a b) = (⟨a.val * 2 + b.val, by omega⟩ : Fin 4) := Fin.ext (Shape.rowMajor_val_two (ix2 a b))
  rw [e]
  fin_cases a <;> fin_cases b
  · exact ofBits_one.trans (by norm_num [sgn])
  · exact ofBits_one.trans (by norm_num [sgn])
  · exact ofBits_one.trans (by norm_num [sgn])
  · exact ofBits_neg_one.trans (by norm_num [sgn])

set_option maxRecDepth 16384 in
/-- The sign matrix of 128 points. -/
theorem signs_apply (i j : Fin 128) : (StableHlo.after opsH σ (Proc.devRef .tc main_v7) : Vec Ideal S128x128 .f32) (ix2 i j) = ((had i j : ℝ) : EReal) := by
  simp only [opsH, hostOps0, hostOps0_1, hostOps0_2, hostOps0_3, hostOps0_4, hostOps0_5, hostOps0_6, hostOps0_7, List.append_nil, List.cons_append, List.nil_append]
  after_reads_at
  simp only [base_apply, ← EReal.coe_mul, ← sgn_xor]
  simp only [had, par, Nat.mod_mod, Bool.false_xor]

set_option maxRecDepth 16384 in
/-- Building the Hadamard matrix leaves the activations unchanged. -/
theorem H_arg0 : StableHlo.after opsH σ (Proc.devRef .tc main_arg0) = σ (Proc.devRef .tc main_arg0) := by
  simp only [opsH, hostOps0, hostOps0_1, hostOps0_2, hostOps0_3, hostOps0_4, hostOps0_5, hostOps0_6, hostOps0_7, List.append_nil, List.cons_append, List.nil_append]
  after_reads_simp

set_option maxRecDepth 16384 in
/-- Building the Hadamard matrix leaves the signs unchanged. -/
theorem H_arg3 : StableHlo.after opsH σ (Proc.devRef .tc main_arg3) = σ (Proc.devRef .tc main_arg3) := by
  simp only [opsH, hostOps0, hostOps0_1, hostOps0_2, hostOps0_3, hostOps0_4, hostOps0_5, hostOps0_6, hostOps0_7, List.append_nil, List.cons_append, List.nil_append]
  after_reads_simp

/-- An entry of the rotated input. -/
theorem A_v16 (x : S1x8192x4096.Idx → EReal) (g : S4096.Idx → EReal) (h : S128x128.Idx → EReal) (hx : σ (Proc.devRef .tc main_arg0) = x)
    (hg : σ (Proc.devRef .tc main_arg3) = g) (hh : σ (Proc.devRef .tc main_v7) = h) (r : Fin 8192) (j : Fin 4096) :
    (StableHlo.after opsA σ (Proc.devRef .tc main_v16) : S8192x4096.Idx → EReal) (ix2 r j)
      = (∑ i : Fin 128, x (ix3 0 r ⟨j.val / 128 * 128 + i.val, by omega⟩) * g (ix1 ⟨j.val / 128 * 128 + i.val, by omega⟩)
          * (h (ix2 i ⟨j.val % 128, by omega⟩) * Ideal.ofBits .f32 0x3DB504F3#32) : EReal) := by
  subst hx hg hh
  simp only [opsA, hostOps0_8, List.take_succ_cons, List.take_zero]
  after_reads_at

/-- The operations after the rotation leave the rotated input alone. -/
theorem R_v16 : StableHlo.after opsR σ (Proc.devRef .tc main_v16) = σ (Proc.devRef .tc main_v16) := by
  simp only [opsR, hostOps0_8, List.drop_succ_cons, List.drop_zero, List.take_succ_cons, List.take_zero]
  after_reads_simp

/-- Computing the exponent leaves the rotated rows unchanged. -/
theorem T_v16 : StableHlo.after opsT σ (Proc.devRef .tc main_v16) = σ (Proc.devRef .tc main_v16) := by
  simp only [opsT, hostOps0_8, hostOps0_9, hostOps0_10, hostOps0_11, List.drop_succ_cons, List.drop_zero, List.append_nil, List.cons_append, List.nil_append]
  after_reads_simp

/-- Computing the scales leaves the rotated rows unchanged. -/
theorem E_v16 : StableHlo.after hostOps0_12 σ (Proc.devRef .tc main_v16) = σ (Proc.devRef .tc main_v16) := by
  simp only [hostOps0_12]
  after_reads_simp

/-- The largest entry of the magnitudes of a row. -/
theorem reduce_apply (x : Vec Ideal S8192x4096 .f32) (r : Fin 8192) :
    (Host.reduce (FloatOps.maximumf (F := Ideal) (φ := .f32)) (Host.absf (F := Ideal) (s := S8192x4096) (φ := .f32) x) (constant (F := Ideal) S_ .f32 0xFF800000#32) reducesTo_S8192x4096_S8192_d1 h_S_ : Vec Ideal S8192 .f32) (ix1 r)
      = Finset.univ.fold max (Ideal.ofBits .f32 0xFF800000#32) (fun j : Fin 4096 => max (x (ix2 r j)) (-x (ix2 r j))) := by
  pointwise
  exact congrArg (fun f => Finset.univ.fold max (Ideal.ofBits .f32 0xFF800000#32) f) (funext fun j => rfl)

/-- The maximum of a row is a fold of its magnitudes from minus infinity. -/
theorem R_v18 : (StableHlo.after opsR σ (Proc.devRef .tc main_v18) : Vec Ideal S8192 .f32)
    = Host.reduce (FloatOps.maximumf (F := Ideal)) (Host.absf (F := Ideal) (s := S8192x4096) (φ := .f32) (σ (Proc.devRef .tc main_v16))) (constant (F := Ideal) S_ .f32 0xFF800000#32) reducesTo_S8192x4096_S8192_d1 h_S_ := by
  simp only [opsR, hostOps0_8, List.drop_succ_cons, List.drop_zero, List.take_succ_cons, List.take_zero]
  after_reads_simp

/-- The exponent of a row whose largest magnitude is `a`, as the operations have it. -/
def refExp (a : EReal) : EReal :=
  if a = 0 then 0 else if a * Ideal.ofBits .f32 0x3B124925#32 < Ideal.ofBits .f32 0x00800000#32 then 0
  else Ideal.liftRound Int.floor (Ideal.div (Ideal.log (a * Ideal.ofBits .f32 0x3B124925#32)) (Ideal.log (Ideal.ofBits .f32 0x40000000#32))) + 1

/-- The f32 word 0 is the number 0. -/
theorem ofBits_zero32 : Ideal.ofBits .f32 0#32 = 0 := by simp [Ideal.ofBits, Ideal.ieee]

/-- The exponent of a row, as a function of the row's maximum. -/
theorem T_v34 (r : Fin 8192) (u : Fin 1) :
    (StableHlo.after opsT σ (Proc.devRef .tc main_v34) : Vec Ideal S8192x1 .f32) (ix2 r u) = refExp ((σ (Proc.devRef .tc main_v18) : Vec Ideal S8192 .f32) (ix1 r)) := by
  simp only [opsT, hostOps0_8, hostOps0_9, hostOps0_10, hostOps0_11, List.drop_succ_cons, List.drop_zero, List.append_nil, List.cons_append, List.nil_append]
  after_reads_at
  have e : id (constant (F := Ideal) S_ .f32 0#32) ix0 = (0 : EReal) := ofBits_zero32
  rw [e]
  rfl

/-- The scale of a row is two to its exponent. -/
theorem E_v36 (r : Fin 8192) (u : Fin 1) :
    (StableHlo.after hostOps0_12 σ (Proc.devRef .tc main_v36) : Vec Ideal S8192x1 .f32) (ix2 r u)
      = Ideal.pow (Ideal.ofBits .f32 0x40000000#32) ((σ (Proc.devRef .tc main_v34) : Vec Ideal S8192x1 .f32) (ix2 r u)) := by
  simp only [hostOps0_12]
  after_reads_at

/-- The factor of a row is two to minus its exponent. -/
theorem E_v39 (e : S8192x1.Idx → EReal) (he : σ (Proc.devRef .tc main_v34) = e) (r : Fin 8192) (u : Fin 1) :
    (StableHlo.after hostOps0_12 σ (Proc.devRef .tc main_v39) : Vec Ideal S8192x1 .f32) (ix2 r u)
      = Ideal.pow (Ideal.ofBits .f32 0x40000000#32) (-e (ix2 r u)) := by
  subst he
  simp only [hostOps0_12]
  after_reads_at

/-- The column scales as a matrix of one row are the argument. -/
theorem V_v40 (n : Fin 3584) (m : (ℓ : Loc nD τ sig) → Buf (Elt Ideal) ℓ) (c : Dev nD) :
    (V m c main_v40 : Vec Ideal S1x3584 .f32) (ix2 0 n) = (m (c, Proc.devRef .tc main_arg2) : Vec Ideal S3584 .f32) (ix1 n) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_at

end Cert.Quarot.Ref
end
-- ==== Proof.RefVals.lean ====
/-
  THE REFERENCE'S RESULTS, entry by entry, for rows within the bound: the rotated input, the scales and their inverses that
  the region finds, then the product, the codes and the scales that the run leaves.
-/
module

public import proofs.«01_k».proof.Proof.RefHost
public import proofs.«01_k».proof.Proof.Block
public import proofs.«01_k».proof.Proof.Gen.ReferenceIdeal.Value
public import Idealize.ShloMosaic.Lib.Pipeline.Value
public import Idealize.ShloMosaic.Lib.Pipeline.ValueKit.Basic

@[expose] public section

noncomputable section

namespace Cert.Quarot.Ref

open Idealize.ShloMosaic Idealize.ShloMosaic.TcCoe Cert.ReferenceIdeal Cert.ReferenceIdeal.Gen Cert.ReferenceIdeal.Value

/-! ## The exponent -/

/-- The f32 word `0x40000000` is 2. -/
theorem ofBits_two : Ideal.ofBits .f32 0x40000000#32 = ((2 : ℝ) : EReal) := by
  rw [ofBits_normal _ 128 0 (by decide) (by decide) (by decide) (by decide) (by decide)]
  norm_num

/-- The f32 word `0x00800000` is two to the -126. -/
theorem ofBits_min_normal : Ideal.ofBits .f32 0x00800000#32 = (((2 : ℝ) ^ (-126 : ℤ) : ℝ) : EReal) := by
  rw [ofBits_normal _ 1 0 (by decide) (by decide) (by decide) (by decide) (by decide)]
  norm_num

/-- The exponent the operations find, for the largest magnitude of a row of reals. -/
theorem refExp_eq (z : Fin 4096 → EReal) : refExp ((amax (rot z) * hn : ℝ) : EReal) = (((rowExp z : ℤ) : ℝ) : EReal) := by
  unfold refExp
  split_ifs with h1 h2
  · have h0 : amax (rot z) = 0 := by
      have := EReal.coe_eq_zero.1 h1
      exact (mul_eq_zero.1 this).resolve_right hn_pos.ne'
    rw [rowExp_of_amax z h0]; norm_num
  · rw [ofBits_cn, ofBits_min_normal, ← EReal.coe_mul] at h2
    have h3 : level z < (2 : ℝ) ^ (-126 : ℤ) := EReal.coe_lt_coe_iff.1 h2
    unfold rowExp expo
    rw [if_pos h3]; norm_num
  · rw [ofBits_cn, ofBits_min_normal, ← EReal.coe_mul] at h2
    have h3 : ¬ level z < (2 : ℝ) ^ (-126 : ℤ) := fun h => h2 (EReal.coe_lt_coe_iff.2 h)
    have hp : 0 < level z := lt_of_lt_of_le (by positivity) (not_lt.1 h3)
    have hl : Real.log 2 ≠ 0 := (Real.log_pos (by norm_num)).ne'
    rw [ofBits_cn, ofBits_two, ← EReal.coe_mul, show amax (rot z) * hn * cn = level z from rfl, Ideal.log_coe, if_neg (not_le.2 hp), Ideal.log_coe,
      if_neg (by norm_num), Ideal.div_coe hl, ← EReal.coe_mul, Ideal.liftRound_coe]
    unfold rowExp expo
    rw [if_neg h3, mul_one_div]
    push_cast
    rfl

/-- The power with base 2 and a whole exponent is the power of the reals. -/
theorem pow_two (e : ℤ) : Ideal.pow (Ideal.ofBits .f32 0x40000000#32) (((e : ℤ) : ℝ) : EReal) = (((2 : ℝ) ^ e : ℝ) : EReal) := by
  rw [ofBits_two, Ideal.pow_coe_coe]
  exact congrArg _ (Real.rpow_intCast 2 e)

/-! ## What the region finds -/

variable (m : (ℓ : Loc nD τ sig) → Buf (Elt Ideal) ℓ) (c : Dev nD)

/-- The activations. -/
def argX : S1x8192x4096.Idx → EReal := m (c, Proc.devRef .tc main_arg0)
/-- The fp8 weights. -/
def argW : S4096x3584.Idx → EReal := m (c, Proc.devRef .tc main_arg1)
/-- The weights' scales. -/
def argWs : S3584.Idx → EReal := m (c, Proc.devRef .tc main_arg2)
/-- The signs. -/
def argS : S4096.Idx → EReal := m (c, Proc.devRef .tc main_arg3)

/-- Row `r` of the activations, times the signs. -/
def zArg (r : Fin 8192) : Fin 4096 → EReal := fun j => argX m c (ix3 0 r j) * argS m c (ix1 j)

/-- The memory after the sign matrix and the rotation. -/
abbrev memA : Valuation τ sig (Elt Ideal) := StableHlo.after opsA (StableHlo.after opsH (fun b => m (c, b)))

variable (hB : ∀ r, Bounded (zArg m c r))
include hB

/-- The rotated row of the reference is the signed sum times `1 / sqrt 128`. -/
theorem memA_v16 (r : Fin 8192) (j : Fin 4096) :
    (memA m c (Proc.devRef .tc main_v16) : S8192x4096.Idx → EReal) (ix2 r j) = ((rot (zArg m c r) j * hn : ℝ) : EReal) := by
  refine @Eq.trans EReal _ _ _ (A_v16 (StableHlo.after opsH (fun b => m (c, b))) (argX m c) (argS m c)
    (StableHlo.after opsH (fun b => m (c, b)) (Proc.devRef .tc main_v7)) (H_arg0 _) (H_arg3 _) rfl r j) ?_
  rw [(hB r).rot_norm_eq]
  refine Finset.sum_congr rfl fun i _ => ?_
  have e : (⟨j.val / 128 * 128 + i.val, by omega⟩ : Fin 4096) = ⟨128 * (j.val / 128) + i.val, by omega⟩ := Fin.ext (by simp only; omega)
  rw [e, ofBits_hn, EReal.coe_mul]
  exact congrArg (fun h : EReal => zArg m c r ⟨128 * (j.val / 128) + i.val, by omega⟩ * (h * (hn : EReal))) (signs_apply _ i ⟨j.val % 128, by omega⟩)

/-- The rotated input. -/
theorem V_v16 (r : Fin 8192) (j : Fin 4096) : (V m c main_v16 : S8192x4096.Idx → EReal) (ix2 r j) = ((rot (zArg m c r) j * hn : ℝ) : EReal) := by
  rw [V_eq, E_v16, T_v16, R_v16]
  exact memA_v16 m c hB r j

/-- The exponent that the reference computes is the exponent of the row. -/
theorem memT_v34 (r : Fin 8192) (u : Fin 1) :
    (StableHlo.after opsT (StableHlo.after opsR (memA m c)) (Proc.devRef .tc main_v34) : S8192x1.Idx → EReal) (ix2 r u) = (((rowExp (zArg m c r) : ℤ) : ℝ) : EReal) := by
  refine (T_v34 _ r u).trans ?_
  rw [R_v18, reduce_apply, ofBits_neg_inf, ← refExp_eq, ← fold_norm]
  refine congrArg refExp (congrArg (fun f => Finset.univ.fold max (⊥ : EReal) f) (funext fun j => ?_))
  exact congrArg (fun v : EReal => max v (-v)) (memA_v16 m c hB r j)

/-- The scales. -/
theorem V_v36 (r : Fin 8192) (u : Fin 1) : (V m c main_v36 : S8192x1.Idx → EReal) (ix2 r u) = rowScale (zArg m c r) := by
  rw [V_eq]
  refine (E_v36 _ r u).trans ?_
  refine (congrArg (Ideal.pow _) (memT_v34 m c hB r u)).trans (pow_two _)

/-- Their inverses. -/
theorem V_v39 (r : Fin 8192) (u : Fin 1) : (V m c main_v39 : S8192x1.Idx → EReal) (ix2 r u) = (((2 : ℝ) ^ (-rowExp (zArg m c r)) : ℝ) : EReal) := by
  rw [V_eq]
  refine (E_v39 _ _ rfl r u).trans ?_
  rw [memT_v34 m c hB r u, ← pow_two, Int.cast_neg, EReal.coe_neg]

omit hB

/-! ## The blocks: the whole arrays -/

/-- The first input window is the whole rotated array. -/
theorem block0 (t : Fin cfg0.N) (i : S8192x4096.Idx) : (iblk m c 0 t : S8192x4096.Idx → EReal) i = (V m c main_v16 : S8192x4096.Idx → EReal) i := by
  unfold iblk
  rw [View.read_apply, cast_eq]
  refine congrArg (V m c main_v16) (funext fun a => Fin.ext ?_)
  match a with
  | ⟨0, _⟩ => show 0 * 8192 + 1 * (i 0).val = (i 0).val; omega
  | ⟨1, _⟩ => show 0 * 4096 + 1 * (i 1).val = (i 1).val; omega

/-- The second input window is the whole array of scales. -/
theorem block1 (t : Fin cfg0.N) (i : S8192x1.Idx) : (iblk m c 1 t : S8192x1.Idx → EReal) i = (V m c main_v36 : S8192x1.Idx → EReal) i := by
  unfold iblk
  rw [View.read_apply, cast_eq]
  refine congrArg (V m c main_v36) (funext fun a => Fin.ext ?_)
  match a with
  | ⟨0, _⟩ => show 0 * 8192 + 1 * (i 0).val = (i 0).val; omega
  | ⟨1, _⟩ => show 0 * 1 + 1 * (i 1).val = (i 1).val; omega

/-- The third input window is the whole array of factors. -/
theorem block2 (t : Fin cfg0.N) (i : S8192x1.Idx) : (iblk m c 2 t : S8192x1.Idx → EReal) i = (V m c main_v39 : S8192x1.Idx → EReal) i := by
  unfold iblk
  rw [View.read_apply, cast_eq]
  refine congrArg (V m c main_v39) (funext fun a => Fin.ext ?_)
  match a with
  | ⟨0, _⟩ => show 0 * 8192 + 1 * (i 0).val = (i 0).val; omega
  | ⟨1, _⟩ => show 0 * 1 + 1 * (i 1).val = (i 1).val; omega

/-- The fourth input window is the whole array of weight codes. -/
theorem block3 (t : Fin cfg0.N) (i : S4096x3584.Idx) : (iblk m c 3 t : S4096x3584.Idx → EReal) i = argW m c i := by
  unfold iblk argW
  rw [View.read_apply, cast_eq]
  refine Eq.trans (congrArg (V m c main_arg1) (funext fun a => Fin.ext ?_)) (congrFun (V_main_arg1 m c) i)
  match a with
  | ⟨0, _⟩ => show 0 * 4096 + 1 * (i 0).val = (i 0).val; omega
  | ⟨1, _⟩ => show 0 * 3584 + 1 * (i 1).val = (i 1).val; omega

/-- The fifth input window is the column scales. -/
theorem block4 (t : Fin cfg0.N) (n : Fin 3584) : (iblk m c 4 t : S1x3584.Idx → EReal) (ix2 0 n) = argWs m c (ix1 n) := by
  unfold iblk argWs
  rw [View.read_apply, cast_eq]
  refine Eq.trans (congrArg (V m c main_v40) (funext fun a => Fin.ext ?_)) (V_v40 n m c)
  match a with
  | ⟨0, _⟩ => rfl
  | ⟨1, _⟩ => show 0 * 3584 + 1 * n.val = n.val; omega

/-! ## The body's results at an index -/

/-- A code is the value times the row's factor, clipped to the fp8 range. -/
theorem pay1_apply (x : Vec Ideal S8192x4096 .f32) (v : Vec Ideal S8192x1 .f32) (r : Fin 8192) (j : Fin 4096) :
    k0_pay1 (F := Ideal) x v (ix2 r j) = min (Ideal.ofBits .f32 0x43E00000#32) (max (Ideal.ofBits .f32 0xC3E00000#32) (x (ix2 r j) * v (ix2 r 0))) := by
  pointwise [k0_pay1]

/-- A product is the sum of codes times weights, times the row's scale, times the column's scale. -/
theorem pay2_apply (x : Vec Ideal S8192x4096 .f32) (v : Vec Ideal S8192x1 .f32) (w : Vec Ideal S4096x3584 .fp8e4m3) (s : Vec Ideal S8192x1 .f32)
    (ws : Vec Ideal S1x3584 .f32) (r : Fin 8192) (n : Fin 3584) :
    k0_pay2 (F := Ideal) x v w s ws (ix2 r n) = (∑ k : Fin 4096, k0_pay1 (F := Ideal) x v (ix2 r k) * w (ix2 k n)) * s (ix2 r 0) * ws (ix2 0 n) := by
  pointwise [k0_pay2]

/-- The second output is the array of codes. -/
theorem out6_eq (x0 : Vec Ideal S8192x4096 .f32) (x1 x2 : Vec Ideal S8192x1 .f32) (x3 : Vec Ideal S4096x3584 .fp8e4m3) (x4 : Vec Ideal S1x3584 .f32) :
    out0_6 x0 x1 x2 x3 x4 = k0_pay1 x0 x2 := by
  unfold out0_6
  rw [View.canon_cons_unit_lit _ _ _ (by decide), View.ld_unit_lit _ _ (by decide), View.ld_unit_lit _ _ (by decide)]

/-- The first output is the array of products. -/
theorem out5_eq (x0 : Vec Ideal S8192x4096 .f32) (x1 x2 : Vec Ideal S8192x1 .f32) (x3 : Vec Ideal S4096x3584 .fp8e4m3) (x4 : Vec Ideal S1x3584 .f32) :
    out0_5 x0 x1 x2 x3 x4 = k0_pay2 x0 x2 x3 x1 x4 := by
  unfold out0_5
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide)]

/-- The third output is the array of scales. -/
theorem out7_eq (x0 : Vec Ideal S8192x4096 .f32) (x1 x2 : Vec Ideal S8192x1 .f32) (x3 : Vec Ideal S4096x3584 .fp8e4m3) (x4 : Vec Ideal S1x3584 .f32)
    (r : Fin 8192) (u : Fin 1) : out0_7 x0 x1 x2 x3 x4 (ix2 r u) = x1 (ix2 r u) := by
  unfold out0_7
  rw [View.canon_cons_unit_lit _ _ _ (by decide), View.ld_unit_lit _ _ (by decide)]
  pointwise [k0_pay3]

/-- The one grid point. -/
abbrev t0 : Fin cfg0.N := ⟨0, by decide⟩

include hB

/-- The code of the reference is the code of the row. -/
theorem code_at (r : Fin 8192) (j : Fin 4096) :
    (k0_pay1 (F := Ideal) (iblk m c 0 t0) (iblk m c 2 t0) : S8192x4096.Idx → EReal) (ix2 r j) = rowCode (zArg m c r) j := by
  refine (pay1_apply _ _ r j).trans ?_
  unfold rowCode
  refine congrArg (fun v : EReal => min _ (max _ v)) ?_
  rw [← mul_assoc, EReal.coe_mul]
  exact congrArg₂ (fun a b : EReal => a * b) ((block0 m c t0 _).trans (V_v16 m c hB r j)) ((block2 m c t0 _).trans (V_v39 m c hB r 0))

/-- THE CODES, every entry. -/
theorem codes_eq (r : Fin 8192) (j : Fin 4096) :
    ((dats m 0 c).arrAt 6 cfg0.N : S8192x4096.Idx → EReal) (ix2 r j) = rowCode (zArg m c r) j := by
  have h := congrFun ((blocks6 m c t0 (by decide)).trans (flushed6 m c t0)) (ix2 r j)
  rw [View.read_apply, cast_eq, out6_eq] at h
  refine Eq.trans ?_ (h.trans (Eq.trans ?_ (code_at m c hB r j)))
  · refine congrArg ((dats m 0 c).arrAt 6 cfg0.N) (funext fun a => Fin.ext ?_)
    match a with
    | ⟨0, _⟩ => show r.val = 0 * 8192 + 1 * r.val; omega
    | ⟨1, _⟩ => show j.val = 0 * 4096 + 1 * j.val; omega
  · rfl

/-- THE SCALES, every entry. -/
theorem scale_eq (r : Fin 8192) (u : Fin 1) :
    ((dats m 0 c).arrAt 7 cfg0.N : S8192x1.Idx → EReal) (ix2 r u) = rowScale (zArg m c r) := by
  have h := congrFun ((blocks7 m c t0 (by decide)).trans (flushed7 m c t0)) (ix2 r u)
  rw [View.read_apply, cast_eq] at h
  refine Eq.trans ?_ (h.trans (Eq.trans (out7_eq _ _ _ _ _ r u) ((block1 m c t0 _).trans (V_v36 m c hB r u))))
  refine congrArg ((dats m 0 c).arrAt 7 cfg0.N) (funext fun a => Fin.ext ?_)
  match a with
  | ⟨0, _⟩ => show r.val = 0 * 8192 + 1 * r.val; omega
  | ⟨1, _⟩ => show u.val = 0 * 1 + 1 * u.val; omega

/-- THE PRODUCT, every entry. -/
theorem y_eq (r : Fin 8192) (n : Fin 3584) :
    ((dats m 0 c).arrAt 5 cfg0.N : S8192x3584.Idx → EReal) (ix2 r n) = rowOut (zArg m c r) (fun k n => argW m c (ix2 k n)) (fun n => argWs m c (ix1 n)) n := by
  have h := congrFun ((blocks5 m c t0 (by decide)).trans (flushed5 m c t0)) (ix2 r n)
  rw [View.read_apply, cast_eq, out5_eq] at h
  refine Eq.trans ?_ (h.trans (Eq.trans (pay2_apply _ _ _ _ _ r n) ?_))
  · refine congrArg ((dats m 0 c).arrAt 5 cfg0.N) (funext fun a => Fin.ext ?_)
    match a with
    | ⟨0, _⟩ => show r.val = 0 * 8192 + 1 * r.val; omega
    | ⟨1, _⟩ => show n.val = 0 * 3584 + 1 * n.val; omega
  · unfold rowOut
    refine congrArg₂ (fun a b : EReal => a * b) (congrArg₂ (fun a b : EReal => a * b) (Finset.sum_congr rfl fun k _ => ?_) ?_) (block4 m c t0 n)
    · exact congrArg₂ (fun a b : EReal => a * b) (code_at m c hB r k) (block3 m c t0 _)
    · exact (block1 m c t0 _).trans (V_v36 m c hB r 0)

end Cert.Quarot.Ref

end
-- ==== Proof.Final.lean ====
/-
  THE VALUE CLAIM: from memories that agree on the arguments and meet the precondition, kernel and reference end with the same
  three arrays. Each side's arrays are the same functions of the rows, entry by entry.
-/
module

public import proofs.«01_k».proof.Defs
public import proofs.«01_k».proof.Proof.Bound
public import proofs.«01_k».proof.Proof.Carry
public import proofs.«01_k».proof.Proof.KernelRun
public import proofs.«01_k».proof.Proof.RefVals

@[expose] public section

noncomputable section

namespace Cert.Quarot

open Idealize.ShloMosaic Idealize.ShloMosaic.TcCoe Idealize.SL.Sem

/-- Two arrays equal at every pair of coordinates are equal. -/
theorem ext_ix2 {a b : ℕ} (f g : (⟨2, ![a, b]⟩ : Shape).Idx → EReal) (h : ∀ (r : Fin a) (j : Fin b), f (ix2 r j) = g (ix2 r j)) : f = g := by
  funext i
  rw [eq_ix2 i]
  exact h _ _

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two memories hold the same four arguments. -/
abbrev Agree : Prop := Ref.argX m' c = argX m c ∧ Ref.argW m' c = argW m c ∧ Ref.argWs m' c = argWs m c ∧ Ref.argS m' c = argS m c

variable (ha : Agree m m' c) (hB : ∀ r, Bounded (zArg m c r))
include ha

/-- Both sides rotate the same row, since their arguments agree. -/
theorem zArg_eq (r : Fin 8192) : Ref.zArg m' c r = zArg m c r := by
  obtain ⟨h0, -, -, h3⟩ := ha
  funext j
  unfold Ref.zArg zArg
  rw [h0, h3]

include hB

/-- The rows of the reference are bounded, like those of the kernel. -/
theorem bounded_ref (r : Fin 8192) : Bounded (Ref.zArg m' c r) := by
  rw [zArg_eq m m' c ha]; exact hB r

/-- The products are equal. -/
theorem same_y : ((Cert.ReferenceIdeal.Gen.dats m' 0 c).arrAt 5 Cert.ReferenceIdeal.cfg0.N : Cert.ReferenceIdeal.S8192x3584.Idx → EReal)
    = (Cert.KernelIdeal.Value.G7 m c : Cert.ReferenceIdeal.S8192x3584.Idx → EReal) := by
  refine ext_ix2 _ _ fun r j => ?_
  refine (Ref.y_eq m' c (bounded_ref m m' c ha hB) r j).trans (Eq.trans ?_ (y_eq m c hB r j).symm)
  rw [zArg_eq m m' c ha]
  obtain ⟨-, h1, h2, -⟩ := ha
  rw [h1, h2]

/-- The codes are equal. -/
theorem same_codes : ((Cert.ReferenceIdeal.Gen.dats m' 0 c).arrAt 6 Cert.ReferenceIdeal.cfg0.N : Cert.ReferenceIdeal.S8192x4096.Idx → EReal)
    = (Cert.KernelIdeal.Value.G8 m c : Cert.ReferenceIdeal.S8192x4096.Idx → EReal) := by
  refine ext_ix2 _ _ fun r j => ?_
  refine (Ref.codes_eq m' c (bounded_ref m m' c ha hB) r j).trans (Eq.trans ?_ (codes_eq m c hB r j).symm)
  rw [zArg_eq m m' c ha]

/-- The scales are equal. -/
theorem same_scale : ((Cert.ReferenceIdeal.Gen.dats m' 0 c).arrAt 7 Cert.ReferenceIdeal.cfg0.N : Cert.ReferenceIdeal.S8192x1.Idx → EReal)
    = (Cert.KernelIdeal.Value.G9 m c : Cert.ReferenceIdeal.S8192x1.Idx → EReal) := by
  refine ext_ix2 _ _ fun r j => ?_
  refine (Ref.scale_eq m' c (bounded_ref m m' c ha hB) r j).trans (Eq.trans ?_ (scale_eq m c hB r j).symm)
  rw [zArg_eq m m' c ha]

end

/-- Kernel and reference end with the same three arrays. -/
theorem algebraic [Cert.Pre_no_overflow.Facts] : Cert.algebraic_KernelIdeal_ReferenceIdeal_pre_no_overflow
    (hKernelIdeal := Cert.KernelIdeal.Gen.facts) (hReferenceIdeal := Cert.ReferenceIdeal.Gen.facts) := by
  intro m g m' g' hpre hagree
  have hB := bounded_of_pre m hpre
  refine ⟨fun c => Cert.KernelIdeal.Value.G7 m c, fun c => Cert.KernelIdeal.Value.G8 m c, fun c => Cert.KernelIdeal.Value.G9 m c,
    Cert.KernelIdeal.Value.run m g, ?_⟩
  refine (θ_run _ _ _).mono (fun r h c => ?_) (Cert.ReferenceIdeal.Value.run_blocks m' g')
  obtain ⟨h5, h6, h7, hargs⟩ := h c
  have ha : Agree m m' c := hagree c
  exact ⟨h5.trans (same_y m m' c ha (hB c)), h6.trans (same_codes m m' c ha (hB c)), h7.trans (same_scale m m' c ha (hB c)), hargs⟩

end Cert.Quarot

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Final
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_no_overflow.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial,
  @Cert.Quarot.algebraic Cert.Pre_no_overflow.Gen.facts⟩

end Cert.Proof

end
